-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 12288]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![12288, 768]⟩ 0 32 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S24x768 : Shape := ⟨2, ![24, 768]⟩
abbrev S32x24x768 : Shape := ⟨3, ![32, 24, 768]⟩
abbrev S32 : Shape := ⟨1, ![32]⟩
abbrev S_ : Shape := ⟨0, ![]⟩
abbrev S1 : Shape := ⟨1, ![1]⟩
abbrev S1x24x768 : Shape := ⟨3, ![1, 24, 768]⟩

abbrev nBuf : Space → Nat
  | .hbm => 3
  | .vmem => 6
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S768x768, .f32⟩
  | .local _ .vmem, ⟨0, _⟩ => ⟨S768x384, .f32⟩
  | .local _ .vmem, ⟨1, _⟩ => ⟨S384x768, .f32⟩
  | .local _ .vmem, ⟨2, _⟩ => ⟨S768x768, .f32⟩
  | .local _ .vmem, ⟨3, _⟩ => ⟨S768x768, .f32⟩
  | .local _ .vmem, ⟨4, _⟩ => ⟨S24x768, .f32⟩
  | .local _ .vmem, ⟨5, _⟩ => ⟨S32x24x768, .f32⟩
  | _, _ => ⟨S768x384, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 : Nat :=
  let c0_i32_2 : BitVec 32 := 0#32
  let c0_i32 : BitVec 32 := 0#32
  let c1_i32_1 : BitVec 32 := 1#32
  let v4 : BitVec 32 := Scalar.muli c0_i32 c1_i32_1
  let v5 : BitVec 32 := Scalar.addi c0_i32_2 v4
  v5.toNat
def k0_dev2 : Nat :=
  let c0_i32_6 : BitVec 32 := 0#32
  let c1_i32_4 : BitVec 32 := 1#32
  let c1_i32_5 : BitVec 32 := 1#32
  let v6 : BitVec 32 := Scalar.muli c1_i32_4 c1_i32_5
  let v7 : BitVec 32 := Scalar.addi c0_i32_6 v6
  v7.toNat
def k0_dev3 : Nat :=
  let c0_i32_9 : BitVec 32 := 0#32
  let c2_i32 : BitVec 32 := 2#32
  let c1_i32_8 : BitVec 32 := 1#32
  let v8 : BitVec 32 := Scalar.muli c2_i32 c1_i32_8
  let v9 : BitVec 32 := Scalar.addi c0_i32_9 v8
  v9.toNat
def k0_dev4 : Nat :=
  let c0_i32_12 : BitVec 32 := 0#32
  let c3_i32 : BitVec 32 := 3#32
  let c1_i32_11 : BitVec 32 := 1#32
  let v10 : BitVec 32 := Scalar.muli c3_i32 c1_i32_11
  let v11 : BitVec 32 := Scalar.addi c0_i32_12 v10
  v11.toNat
def k0_dev5 : Nat :=
  let c0_i32_15 : BitVec 32 := 0#32
  let c4_i32 : BitVec 32 := 4#32
  let c1_i32_14 : BitVec 32 := 1#32
  let v12 : BitVec 32 := Scalar.muli c4_i32 c1_i32_14
  let v13 : BitVec 32 := Scalar.addi c0_i32_15 v12
  v13.toNat
def k0_dev6 : Nat :=
  let c0_i32_18 : BitVec 32 := 0#32
  let c5_i32 : BitVec 32 := 5#32
  let c1_i32_17 : BitVec 32 := 1#32
  let v14 : BitVec 32 := Scalar.muli c5_i32 c1_i32_17
  let v15 : BitVec 32 := Scalar.addi c0_i32_18 v14
  v15.toNat
def k0_dev7 : Nat :=
  let c0_i32_21 : BitVec 32 := 0#32
  let c6_i32 : BitVec 32 := 6#32
  let c1_i32_20 : BitVec 32 := 1#32
  let v16 : BitVec 32 := Scalar.muli c6_i32 c1_i32_20
  let v17 : BitVec 32 := Scalar.addi c0_i32_21 v16
  v17.toNat
def k0_dev8 : Nat :=
  let c0_i32_24 : BitVec 32 := 0#32
  let c7_i32 : BitVec 32 := 7#32
  let c1_i32_23 : BitVec 32 := 1#32
  let v18 : BitVec 32 := Scalar.muli c7_i32 c1_i32_23
  let v19 : BitVec 32 := Scalar.addi c0_i32_24 v18
  v19.toNat
def k0_dev9 : Nat :=
  let c0_i32_27 : BitVec 32 := 0#32
  let c8_i32 : BitVec 32 := 8#32
  let c1_i32_26 : BitVec 32 := 1#32
  let v20 : BitVec 32 := Scalar.muli c8_i32 c1_i32_26
  let v21 : BitVec 32 := Scalar.addi c0_i32_27 v20
  v21.toNat
def k0_dev10 : Nat :=
  let c0_i32_30 : BitVec 32 := 0#32
  let c9_i32 : BitVec 32 := 9#32
  let c1_i32_29 : BitVec 32 := 1#32
  let v22 : BitVec 32 := Scalar.muli c9_i32 c1_i32_29
  let v23 : BitVec 32 := Scalar.addi c0_i32_30 v22
  v23.toNat
def k0_dev11 : Nat :=
  let c0_i32_33 : BitVec 32 := 0#32
  let c10_i32 : BitVec 32 := 10#32
  let c1_i32_32 : BitVec 32 := 1#32
  let v24 : BitVec 32 := Scalar.muli c10_i32 c1_i32_32
  let v25 : BitVec 32 := Scalar.addi c0_i32_33 v24
  v25.toNat
def k0_dev12 : Nat :=
  let c0_i32_36 : BitVec 32 := 0#32
  let c11_i32 : BitVec 32 := 11#32
  let c1_i32_35 : BitVec 32 := 1#32
  let v26 : BitVec 32 := Scalar.muli c11_i32 c1_i32_35
  let v27 : BitVec 32 := Scalar.addi c0_i32_36 v26
  v27.toNat
def k0_dev13 : Nat :=
  let c0_i32_39 : BitVec 32 := 0#32
  let c12_i32 : BitVec 32 := 12#32
  let c1_i32_38 : BitVec 32 := 1#32
  let v28 : BitVec 32 := Scalar.muli c12_i32 c1_i32_38
  let v29 : BitVec 32 := Scalar.addi c0_i32_39 v28
  v29.toNat
def k0_dev14 : Nat :=
  let c0_i32_42 : BitVec 32 := 0#32
  let c13_i32 : BitVec 32 := 13#32
  let c1_i32_41 : BitVec 32 := 1#32
  let v30 : BitVec 32 := Scalar.muli c13_i32 c1_i32_41
  let v31 : BitVec 32 := Scalar.addi c0_i32_42 v30
  v31.toNat
def k0_dev15 : Nat :=
  let c0_i32_45 : BitVec 32 := 0#32
  let c14_i32 : BitVec 32 := 14#32
  let c1_i32_44 : BitVec 32 := 1#32
  let v32 : BitVec 32 := Scalar.muli c14_i32 c1_i32_44
  let v33 : BitVec 32 := Scalar.addi c0_i32_45 v32
  v33.toNat
def k0_dev16 : Nat :=
  let c0_i32_48 : BitVec 32 := 0#32
  let c15_i32 : BitVec 32 := 15#32
  let c1_i32_47 : BitVec 32 := 1#32
  let v34 : BitVec 32 := Scalar.muli c15_i32 c1_i32_47
  let v35 : BitVec 32 := Scalar.addi c0_i32_48 v34
  v35.toNat
def k0_dev17 : Nat :=
  let c0_i32_51 : BitVec 32 := 0#32
  let c16_i32 : BitVec 32 := 16#32
  let c1_i32_50 : BitVec 32 := 1#32
  let v36 : BitVec 32 := Scalar.muli c16_i32 c1_i32_50
  let v37 : BitVec 32 := Scalar.addi c0_i32_51 v36
  v37.toNat
def k0_dev18 : Nat :=
  let c0_i32_54 : BitVec 32 := 0#32
  let c17_i32 : BitVec 32 := 17#32
  let c1_i32_53 : BitVec 32 := 1#32
  let v38 : BitVec 32 := Scalar.muli c17_i32 c1_i32_53
  let v39 : BitVec 32 := Scalar.addi c0_i32_54 v38
  v39.toNat
def k0_dev19 : Nat :=
  let c0_i32_57 : BitVec 32 := 0#32
  let c18_i32 : BitVec 32 := 18#32
  let c1_i32_56 : BitVec 32 := 1#32
  let v40 : BitVec 32 := Scalar.muli c18_i32 c1_i32_56
  let v41 : BitVec 32 := Scalar.addi c0_i32_57 v40
  v41.toNat
def k0_dev20 : Nat :=
  let c0_i32_60 : BitVec 32 := 0#32
  let c19_i32 : BitVec 32 := 19#32
  let c1_i32_59 : BitVec 32 := 1#32
  let v42 : BitVec 32 := Scalar.muli c19_i32 c1_i32_59
  let v43 : BitVec 32 := Scalar.addi c0_i32_60 v42
  v43.toNat
def k0_dev21 : Nat :=
  let c0_i32_63 : BitVec 32 := 0#32
  let c20_i32 : BitVec 32 := 20#32
  let c1_i32_62 : BitVec 32 := 1#32
  let v44 : BitVec 32 := Scalar.muli c20_i32 c1_i32_62
  let v45 : BitVec 32 := Scalar.addi c0_i32_63 v44
  v45.toNat
def k0_dev22 : Nat :=
  let c0_i32_66 : BitVec 32 := 0#32
  let c21_i32 : BitVec 32 := 21#32
  let c1_i32_65 : BitVec 32 := 1#32
  let v46 : BitVec 32 := Scalar.muli c21_i32 c1_i32_65
  let v47 : BitVec 32 := Scalar.addi c0_i32_66 v46
  v47.toNat
def k0_dev23 : Nat :=
  let c0_i32_69 : BitVec 32 := 0#32
  let c22_i32 : BitVec 32 := 22#32
  let c1_i32_68 : BitVec 32 := 1#32
  let v48 : BitVec 32 := Scalar.muli c22_i32 c1_i32_68
  let v49 : BitVec 32 := Scalar.addi c0_i32_69 v48
  v49.toNat
def k0_dev24 : Nat :=
  let c0_i32_72 : BitVec 32 := 0#32
  let c23_i32 : BitVec 32 := 23#32
  let c1_i32_71 : BitVec 32 := 1#32
  let v50 : BitVec 32 := Scalar.muli c23_i32 c1_i32_71
  let v51 : BitVec 32 := Scalar.addi c0_i32_72 v50
  v51.toNat
def k0_dev25 : Nat :=
  let c0_i32_75 : BitVec 32 := 0#32
  let c24_i32 : BitVec 32 := 24#32
  let c1_i32_74 : BitVec 32 := 1#32
  let v52 : BitVec 32 := Scalar.muli c24_i32 c1_i32_74
  let v53 : BitVec 32 := Scalar.addi c0_i32_75 v52
  v53.toNat
def k0_dev26 : Nat :=
  let c0_i32_78 : BitVec 32 := 0#32
  let c25_i32 : BitVec 32 := 25#32
  let c1_i32_77 : BitVec 32 := 1#32
  let v54 : BitVec 32 := Scalar.muli c25_i32 c1_i32_77
  let v55 : BitVec 32 := Scalar.addi c0_i32_78 v54
  v55.toNat
def k0_dev27 : Nat :=
  let c0_i32_81 : BitVec 32 := 0#32
  let c26_i32 : BitVec 32 := 26#32
  let c1_i32_80 : BitVec 32 := 1#32
  let v56 : BitVec 32 := Scalar.muli c26_i32 c1_i32_80
  let v57 : BitVec 32 := Scalar.addi c0_i32_81 v56
  v57.toNat
def k0_dev28 : Nat :=
  let c0_i32_84 : BitVec 32 := 0#32
  let c27_i32 : BitVec 32 := 27#32
  let c1_i32_83 : BitVec 32 := 1#32
  let v58 : BitVec 32 := Scalar.muli c27_i32 c1_i32_83
  let v59 : BitVec 32 := Scalar.addi c0_i32_84 v58
  v59.toNat
def k0_dev29 : Nat :=
  let c0_i32_87 : BitVec 32 := 0#32
  let c28_i32 : BitVec 32 := 28#32
  let c1_i32_86 : BitVec 32 := 1#32
  let v60 : BitVec 32 := Scalar.muli c28_i32 c1_i32_86
  let v61 : BitVec 32 := Scalar.addi c0_i32_87 v60
  v61.toNat
def k0_dev30 : Nat :=
  let c0_i32_90 : BitVec 32 := 0#32
  let c29_i32 : BitVec 32 := 29#32
  let c1_i32_89 : BitVec 32 := 1#32
  let v62 : BitVec 32 := Scalar.muli c29_i32 c1_i32_89
  let v63 : BitVec 32 := Scalar.addi c0_i32_90 v62
  v63.toNat
def k0_dev31 : Nat :=
  let c0_i32_93 : BitVec 32 := 0#32
  let c30_i32 : BitVec 32 := 30#32
  let c1_i32_92 : BitVec 32 := 1#32
  let v64 : BitVec 32 := Scalar.muli c30_i32 c1_i32_92
  let v65 : BitVec 32 := Scalar.addi c0_i32_93 v64
  v65.toNat
def k0_dev32 : Nat :=
  let c0_i32_96 : BitVec 32 := 0#32
  let c31_i32 : BitVec 32 := 31#32
  let c1_i32_95 : BitVec 32 := 1#32
  let v66 : BitVec 32 := Scalar.muli c31_i32 c1_i32_95
  let v67 : BitVec 32 := Scalar.addi c0_i32_96 v66
  v67.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_109 : BitVec 32 := 0#32
  let c0_i32_110 : BitVec 32 := 0#32
  ![v2.toNat, 0, 0]
def k0_off3 (d0 : Dev nD) (c1_i32_103 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v76 : BitVec 32 := Scalar.addi v2 c1_i32_103
  let c32_i32_104 : BitVec 32 := 32#32
  let v77 : BitVec 32 := Scalar.remsi v76 c32_i32_104
  let c24_i32_105 : BitVec 32 := 24#32
  let v78 : BitVec 32 := Scalar.muli v77 c24_i32_105
  let c0_i32_111 : BitVec 32 := 0#32
  ![v78.toNat, 0]
def k0_dev33 (d0 : Dev nD) : Nat :=
  let c0_i32_108 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_103 : BitVec 32 := 1#32
  let v76 : BitVec 32 := Scalar.addi v2 c1_i32_103
  let c32_i32_104 : BitVec 32 := 32#32
  let v77 : BitVec 32 := Scalar.remsi v76 c32_i32_104
  let c1_i32_107 : BitVec 32 := 1#32
  let v79 : BitVec 32 := Scalar.muli v77 c1_i32_107
  let v80 : BitVec 32 := Scalar.addi c0_i32_108 v79
  v80.toNat
def k0_dev34 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_112 : BitVec 32 := 2#32
  let v88 : BitVec 32 := Scalar.addi v2 c2_i32_112
  let c32_i32_113 : BitVec 32 := 32#32
  let v89 : BitVec 32 := Scalar.remsi v88 c32_i32_113
  let c1_i32_116 : BitVec 32 := 1#32
  let v91 : BitVec 32 := Scalar.muli v89 c1_i32_116
  let v92 : BitVec 32 := Scalar.addi c0_i32_117 v91
  v92.toNat
def k0_dev35 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_121 : BitVec 32 := 3#32
  let v100 : BitVec 32 := Scalar.addi v2 c3_i32_121
  let c32_i32_122 : BitVec 32 := 32#32
  let v101 : BitVec 32 := Scalar.remsi v100 c32_i32_122
  let c1_i32_125 : BitVec 32 := 1#32
  let v103 : BitVec 32 := Scalar.muli v101 c1_i32_125
  let v104 : BitVec 32 := Scalar.addi c0_i32_126 v103
  v104.toNat
def k0_dev36 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_130 : BitVec 32 := 4#32
  let v112 : BitVec 32 := Scalar.addi v2 c4_i32_130
  let c32_i32_131 : BitVec 32 := 32#32
  let v113 : BitVec 32 := Scalar.remsi v112 c32_i32_131
  let c1_i32_134 : BitVec 32 := 1#32
  let v115 : BitVec 32 := Scalar.muli v113 c1_i32_134
  let v116 : BitVec 32 := Scalar.addi c0_i32_135 v115
  v116.toNat
def k0_dev37 (d0 : Dev nD) : Nat :=
  let c0_i32_144 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_139 : BitVec 32 := 5#32
  let v124 : BitVec 32 := Scalar.addi v2 c5_i32_139
  let c32_i32_140 : BitVec 32 := 32#32
  let v125 : BitVec 32 := Scalar.remsi v124 c32_i32_140
  let c1_i32_143 : BitVec 32 := 1#32
  let v127 : BitVec 32 := Scalar.muli v125 c1_i32_143
  let v128 : BitVec 32 := Scalar.addi c0_i32_144 v127
  v128.toNat
def k0_dev38 (d0 : Dev nD) : Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_148 : BitVec 32 := 6#32
  let v136 : BitVec 32 := Scalar.addi v2 c6_i32_148
  let c32_i32_149 : BitVec 32 := 32#32
  let v137 : BitVec 32 := Scalar.remsi v136 c32_i32_149
  let c1_i32_152 : BitVec 32 := 1#32
  let v139 : BitVec 32 := Scalar.muli v137 c1_i32_152
  let v140 : BitVec 32 := Scalar.addi c0_i32_153 v139
  v140.toNat
def k0_dev39 (d0 : Dev nD) : Nat :=
  let c0_i32_162 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_157 : BitVec 32 := 7#32
  let v148 : BitVec 32 := Scalar.addi v2 c7_i32_157
  let c32_i32_158 : BitVec 32 := 32#32
  let v149 : BitVec 32 := Scalar.remsi v148 c32_i32_158
  let c1_i32_161 : BitVec 32 := 1#32
  let v151 : BitVec 32 := Scalar.muli v149 c1_i32_161
  let v152 : BitVec 32 := Scalar.addi c0_i32_162 v151
  v152.toNat
def k0_dev40 (d0 : Dev nD) : Nat :=
  let c0_i32_171 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_166 : BitVec 32 := 8#32
  let v160 : BitVec 32 := Scalar.addi v2 c8_i32_166
  let c32_i32_167 : BitVec 32 := 32#32
  let v161 : BitVec 32 := Scalar.remsi v160 c32_i32_167
  let c1_i32_170 : BitVec 32 := 1#32
  let v163 : BitVec 32 := Scalar.muli v161 c1_i32_170
  let v164 : BitVec 32 := Scalar.addi c0_i32_171 v163
  v164.toNat
def k0_dev41 (d0 : Dev nD) : Nat :=
  let c0_i32_180 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_175 : BitVec 32 := 9#32
  let v172 : BitVec 32 := Scalar.addi v2 c9_i32_175
  let c32_i32_176 : BitVec 32 := 32#32
  let v173 : BitVec 32 := Scalar.remsi v172 c32_i32_176
  let c1_i32_179 : BitVec 32 := 1#32
  let v175 : BitVec 32 := Scalar.muli v173 c1_i32_179
  let v176 : BitVec 32 := Scalar.addi c0_i32_180 v175
  v176.toNat
def k0_dev42 (d0 : Dev nD) : Nat :=
  let c0_i32_189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_184 : BitVec 32 := 10#32
  let v184 : BitVec 32 := Scalar.addi v2 c10_i32_184
  let c32_i32_185 : BitVec 32 := 32#32
  let v185 : BitVec 32 := Scalar.remsi v184 c32_i32_185
  let c1_i32_188 : BitVec 32 := 1#32
  let v187 : BitVec 32 := Scalar.muli v185 c1_i32_188
  let v188 : BitVec 32 := Scalar.addi c0_i32_189 v187
  v188.toNat
def k0_dev43 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_193 : BitVec 32 := 11#32
  let v196 : BitVec 32 := Scalar.addi v2 c11_i32_193
  let c32_i32_194 : BitVec 32 := 32#32
  let v197 : BitVec 32 := Scalar.remsi v196 c32_i32_194
  let c1_i32_197 : BitVec 32 := 1#32
  let v199 : BitVec 32 := Scalar.muli v197 c1_i32_197
  let v200 : BitVec 32 := Scalar.addi c0_i32_198 v199
  v200.toNat
def k0_dev44 (d0 : Dev nD) : Nat :=
  let c0_i32_207 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_202 : BitVec 32 := 12#32
  let v208 : BitVec 32 := Scalar.addi v2 c12_i32_202
  let c32_i32_203 : BitVec 32 := 32#32
  let v209 : BitVec 32 := Scalar.remsi v208 c32_i32_203
  let c1_i32_206 : BitVec 32 := 1#32
  let v211 : BitVec 32 := Scalar.muli v209 c1_i32_206
  let v212 : BitVec 32 := Scalar.addi c0_i32_207 v211
  v212.toNat
def k0_dev45 (d0 : Dev nD) : Nat :=
  let c0_i32_216 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_211 : BitVec 32 := 13#32
  let v220 : BitVec 32 := Scalar.addi v2 c13_i32_211
  let c32_i32_212 : BitVec 32 := 32#32
  let v221 : BitVec 32 := Scalar.remsi v220 c32_i32_212
  let c1_i32_215 : BitVec 32 := 1#32
  let v223 : BitVec 32 := Scalar.muli v221 c1_i32_215
  let v224 : BitVec 32 := Scalar.addi c0_i32_216 v223
  v224.toNat
def k0_dev46 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_220 : BitVec 32 := 14#32
  let v232 : BitVec 32 := Scalar.addi v2 c14_i32_220
  let c32_i32_221 : BitVec 32 := 32#32
  let v233 : BitVec 32 := Scalar.remsi v232 c32_i32_221
  let c1_i32_224 : BitVec 32 := 1#32
  let v235 : BitVec 32 := Scalar.muli v233 c1_i32_224
  let v236 : BitVec 32 := Scalar.addi c0_i32_225 v235
  v236.toNat
def k0_dev47 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_229 : BitVec 32 := 15#32
  let v244 : BitVec 32 := Scalar.addi v2 c15_i32_229
  let c32_i32_230 : BitVec 32 := 32#32
  let v245 : BitVec 32 := Scalar.remsi v244 c32_i32_230
  let c1_i32_233 : BitVec 32 := 1#32
  let v247 : BitVec 32 := Scalar.muli v245 c1_i32_233
  let v248 : BitVec 32 := Scalar.addi c0_i32_234 v247
  v248.toNat
def k0_dev48 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_238 : BitVec 32 := 16#32
  let v256 : BitVec 32 := Scalar.addi v2 c16_i32_238
  let c32_i32_239 : BitVec 32 := 32#32
  let v257 : BitVec 32 := Scalar.remsi v256 c32_i32_239
  let c1_i32_242 : BitVec 32 := 1#32
  let v259 : BitVec 32 := Scalar.muli v257 c1_i32_242
  let v260 : BitVec 32 := Scalar.addi c0_i32_243 v259
  v260.toNat
def k0_dev49 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_247 : BitVec 32 := 17#32
  let v268 : BitVec 32 := Scalar.addi v2 c17_i32_247
  let c32_i32_248 : BitVec 32 := 32#32
  let v269 : BitVec 32 := Scalar.remsi v268 c32_i32_248
  let c1_i32_251 : BitVec 32 := 1#32
  let v271 : BitVec 32 := Scalar.muli v269 c1_i32_251
  let v272 : BitVec 32 := Scalar.addi c0_i32_252 v271
  v272.toNat
def k0_dev50 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_256 : BitVec 32 := 18#32
  let v280 : BitVec 32 := Scalar.addi v2 c18_i32_256
  let c32_i32_257 : BitVec 32 := 32#32
  let v281 : BitVec 32 := Scalar.remsi v280 c32_i32_257
  let c1_i32_260 : BitVec 32 := 1#32
  let v283 : BitVec 32 := Scalar.muli v281 c1_i32_260
  let v284 : BitVec 32 := Scalar.addi c0_i32_261 v283
  v284.toNat
def k0_dev51 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_265 : BitVec 32 := 19#32
  let v292 : BitVec 32 := Scalar.addi v2 c19_i32_265
  let c32_i32_266 : BitVec 32 := 32#32
  let v293 : BitVec 32 := Scalar.remsi v292 c32_i32_266
  let c1_i32_269 : BitVec 32 := 1#32
  let v295 : BitVec 32 := Scalar.muli v293 c1_i32_269
  let v296 : BitVec 32 := Scalar.addi c0_i32_270 v295
  v296.toNat
def k0_dev52 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_274 : BitVec 32 := 20#32
  let v304 : BitVec 32 := Scalar.addi v2 c20_i32_274
  let c32_i32_275 : BitVec 32 := 32#32
  let v305 : BitVec 32 := Scalar.remsi v304 c32_i32_275
  let c1_i32_278 : BitVec 32 := 1#32
  let v307 : BitVec 32 := Scalar.muli v305 c1_i32_278
  let v308 : BitVec 32 := Scalar.addi c0_i32_279 v307
  v308.toNat
def k0_dev53 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_283 : BitVec 32 := 21#32
  let v316 : BitVec 32 := Scalar.addi v2 c21_i32_283
  let c32_i32_284 : BitVec 32 := 32#32
  let v317 : BitVec 32 := Scalar.remsi v316 c32_i32_284
  let c1_i32_287 : BitVec 32 := 1#32
  let v319 : BitVec 32 := Scalar.muli v317 c1_i32_287
  let v320 : BitVec 32 := Scalar.addi c0_i32_288 v319
  v320.toNat
def k0_dev54 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_292 : BitVec 32 := 22#32
  let v328 : BitVec 32 := Scalar.addi v2 c22_i32_292
  let c32_i32_293 : BitVec 32 := 32#32
  let v329 : BitVec 32 := Scalar.remsi v328 c32_i32_293
  let c1_i32_296 : BitVec 32 := 1#32
  let v331 : BitVec 32 := Scalar.muli v329 c1_i32_296
  let v332 : BitVec 32 := Scalar.addi c0_i32_297 v331
  v332.toNat
def k0_dev55 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_301 : BitVec 32 := 23#32
  let v340 : BitVec 32 := Scalar.addi v2 c23_i32_301
  let c32_i32_302 : BitVec 32 := 32#32
  let v341 : BitVec 32 := Scalar.remsi v340 c32_i32_302
  let c1_i32_305 : BitVec 32 := 1#32
  let v343 : BitVec 32 := Scalar.muli v341 c1_i32_305
  let v344 : BitVec 32 := Scalar.addi c0_i32_306 v343
  v344.toNat
def k0_dev56 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_310 : BitVec 32 := 24#32
  let v352 : BitVec 32 := Scalar.addi v2 c24_i32_310
  let c32_i32_311 : BitVec 32 := 32#32
  let v353 : BitVec 32 := Scalar.remsi v352 c32_i32_311
  let c1_i32_314 : BitVec 32 := 1#32
  let v355 : BitVec 32 := Scalar.muli v353 c1_i32_314
  let v356 : BitVec 32 := Scalar.addi c0_i32_315 v355
  v356.toNat
def k0_dev57 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_319 : BitVec 32 := 25#32
  let v364 : BitVec 32 := Scalar.addi v2 c25_i32_319
  let c32_i32_320 : BitVec 32 := 32#32
  let v365 : BitVec 32 := Scalar.remsi v364 c32_i32_320
  let c1_i32_323 : BitVec 32 := 1#32
  let v367 : BitVec 32 := Scalar.muli v365 c1_i32_323
  let v368 : BitVec 32 := Scalar.addi c0_i32_324 v367
  v368.toNat
def k0_dev58 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_328 : BitVec 32 := 26#32
  let v376 : BitVec 32 := Scalar.addi v2 c26_i32_328
  let c32_i32_329 : BitVec 32 := 32#32
  let v377 : BitVec 32 := Scalar.remsi v376 c32_i32_329
  let c1_i32_332 : BitVec 32 := 1#32
  let v379 : BitVec 32 := Scalar.muli v377 c1_i32_332
  let v380 : BitVec 32 := Scalar.addi c0_i32_333 v379
  v380.toNat
def k0_dev59 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_337 : BitVec 32 := 27#32
  let v388 : BitVec 32 := Scalar.addi v2 c27_i32_337
  let c32_i32_338 : BitVec 32 := 32#32
  let v389 : BitVec 32 := Scalar.remsi v388 c32_i32_338
  let c1_i32_341 : BitVec 32 := 1#32
  let v391 : BitVec 32 := Scalar.muli v389 c1_i32_341
  let v392 : BitVec 32 := Scalar.addi c0_i32_342 v391
  v392.toNat
def k0_dev60 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_346 : BitVec 32 := 28#32
  let v400 : BitVec 32 := Scalar.addi v2 c28_i32_346
  let c32_i32_347 : BitVec 32 := 32#32
  let v401 : BitVec 32 := Scalar.remsi v400 c32_i32_347
  let c1_i32_350 : BitVec 32 := 1#32
  let v403 : BitVec 32 := Scalar.muli v401 c1_i32_350
  let v404 : BitVec 32 := Scalar.addi c0_i32_351 v403
  v404.toNat
def k0_dev61 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_355 : BitVec 32 := 29#32
  let v412 : BitVec 32 := Scalar.addi v2 c29_i32_355
  let c32_i32_356 : BitVec 32 := 32#32
  let v413 : BitVec 32 := Scalar.remsi v412 c32_i32_356
  let c1_i32_359 : BitVec 32 := 1#32
  let v415 : BitVec 32 := Scalar.muli v413 c1_i32_359
  let v416 : BitVec 32 := Scalar.addi c0_i32_360 v415
  v416.toNat
def k0_dev62 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_364 : BitVec 32 := 30#32
  let v424 : BitVec 32 := Scalar.addi v2 c30_i32_364
  let c32_i32_365 : BitVec 32 := 32#32
  let v425 : BitVec 32 := Scalar.remsi v424 c32_i32_365
  let c1_i32_368 : BitVec 32 := 1#32
  let v427 : BitVec 32 := Scalar.muli v425 c1_i32_368
  let v428 : BitVec 32 := Scalar.addi c0_i32_369 v427
  v428.toNat
def k0_dev63 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_373 : BitVec 32 := 31#32
  let v436 : BitVec 32 := Scalar.addi v2 c31_i32_373
  let c32_i32_374 : BitVec 32 := 32#32
  let v437 : BitVec 32 := Scalar.remsi v436 c32_i32_374
  let c1_i32_377 : BitVec 32 := 1#32
  let v439 : BitVec 32 := Scalar.muli v437 c1_i32_377
  let v440 : BitVec 32 := Scalar.addi c0_i32_378 v439
  v440.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_382 : BitVec 32 := 24#32
  let v448 : BitVec 32 := Scalar.muli v2 c24_i32_382
  let v449 : Index := Scalar.indexCast v448
  let c0_383 : Index := 0#32
  ![v449.toNat, 0]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v451 : Index := Scalar.indexCast v2
  let c0_384 : Index := 0#32
  let c0_385 : Index := 0#32
  ![v451.toNat, 0, 0]
def k0_off6 (d0 : Dev nD) (c1_i32_387 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_386 : BitVec 32 := 32#32
  let v455 : BitVec 32 := Scalar.addi v2 c32_i32_386
  let v456 : BitVec 32 := Scalar.subi v455 c1_i32_387
  let c32_i32_388 : BitVec 32 := 32#32
  let v457 : BitVec 32 := Scalar.remsi v456 c32_i32_388
  ![v457.toNat]
def k0_off7 (d0 : Dev nD) (c1_i32_387 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_386 : BitVec 32 := 32#32
  let v455 : BitVec 32 := Scalar.addi v2 c32_i32_386
  let v456 : BitVec 32 := Scalar.subi v455 c1_i32_387
  let c32_i32_388 : BitVec 32 := 32#32
  let v457 : BitVec 32 := Scalar.remsi v456 c32_i32_388
  let c0_i32_392 : BitVec 32 := 0#32
  let c0_i32_393 : BitVec 32 := 0#32
  ![v457.toNat, 0, 0]
def k0_off8 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_646 : BitVec 32 := 24#32
  let v745 : BitVec 32 := Scalar.muli v2 c24_i32_646
  let c0_i32_650 : BitVec 32 := 0#32
  ![v745.toNat, 0]
def k0_dev64 (d0 : Dev nD) : Nat :=
  let c0_i32_649 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_644 : BitVec 32 := 1#32
  let v743 : BitVec 32 := Scalar.addi v2 c1_i32_644
  let c32_i32_645 : BitVec 32 := 32#32
  let v744 : BitVec 32 := Scalar.remsi v743 c32_i32_645
  let c1_i32_648 : BitVec 32 := 1#32
  let v746 : BitVec 32 := Scalar.muli v744 c1_i32_648
  let v747 : BitVec 32 := Scalar.addi c0_i32_649 v746
  v747.toNat
def k0_dev65 (d0 : Dev nD) : Nat :=
  let c0_i32_656 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_651 : BitVec 32 := 2#32
  let v753 : BitVec 32 := Scalar.addi v2 c2_i32_651
  let c32_i32_652 : BitVec 32 := 32#32
  let v754 : BitVec 32 := Scalar.remsi v753 c32_i32_652
  let c1_i32_655 : BitVec 32 := 1#32
  let v756 : BitVec 32 := Scalar.muli v754 c1_i32_655
  let v757 : BitVec 32 := Scalar.addi c0_i32_656 v756
  v757.toNat
def k0_dev66 (d0 : Dev nD) : Nat :=
  let c0_i32_663 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_658 : BitVec 32 := 3#32
  let v763 : BitVec 32 := Scalar.addi v2 c3_i32_658
  let c32_i32_659 : BitVec 32 := 32#32
  let v764 : BitVec 32 := Scalar.remsi v763 c32_i32_659
  let c1_i32_662 : BitVec 32 := 1#32
  let v766 : BitVec 32 := Scalar.muli v764 c1_i32_662
  let v767 : BitVec 32 := Scalar.addi c0_i32_663 v766
  v767.toNat
def k0_dev67 (d0 : Dev nD) : Nat :=
  let c0_i32_670 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_665 : BitVec 32 := 4#32
  let v773 : BitVec 32 := Scalar.addi v2 c4_i32_665
  let c32_i32_666 : BitVec 32 := 32#32
  let v774 : BitVec 32 := Scalar.remsi v773 c32_i32_666
  let c1_i32_669 : BitVec 32 := 1#32
  let v776 : BitVec 32 := Scalar.muli v774 c1_i32_669
  let v777 : BitVec 32 := Scalar.addi c0_i32_670 v776
  v777.toNat
def k0_dev68 (d0 : Dev nD) : Nat :=
  let c0_i32_677 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_672 : BitVec 32 := 5#32
  let v783 : BitVec 32 := Scalar.addi v2 c5_i32_672
  let c32_i32_673 : BitVec 32 := 32#32
  let v784 : BitVec 32 := Scalar.remsi v783 c32_i32_673
  let c1_i32_676 : BitVec 32 := 1#32
  let v786 : BitVec 32 := Scalar.muli v784 c1_i32_676
  let v787 : BitVec 32 := Scalar.addi c0_i32_677 v786
  v787.toNat
def k0_dev69 (d0 : Dev nD) : Nat :=
  let c0_i32_684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_679 : BitVec 32 := 6#32
  let v793 : BitVec 32 := Scalar.addi v2 c6_i32_679
  let c32_i32_680 : BitVec 32 := 32#32
  let v794 : BitVec 32 := Scalar.remsi v793 c32_i32_680
  let c1_i32_683 : BitVec 32 := 1#32
  let v796 : BitVec 32 := Scalar.muli v794 c1_i32_683
  let v797 : BitVec 32 := Scalar.addi c0_i32_684 v796
  v797.toNat
def k0_dev70 (d0 : Dev nD) : Nat :=
  let c0_i32_691 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_686 : BitVec 32 := 7#32
  let v803 : BitVec 32 := Scalar.addi v2 c7_i32_686
  let c32_i32_687 : BitVec 32 := 32#32
  let v804 : BitVec 32 := Scalar.remsi v803 c32_i32_687
  let c1_i32_690 : BitVec 32 := 1#32
  let v806 : BitVec 32 := Scalar.muli v804 c1_i32_690
  let v807 : BitVec 32 := Scalar.addi c0_i32_691 v806
  v807.toNat
def k0_dev71 (d0 : Dev nD) : Nat :=
  let c0_i32_698 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_693 : BitVec 32 := 8#32
  let v813 : BitVec 32 := Scalar.addi v2 c8_i32_693
  let c32_i32_694 : BitVec 32 := 32#32
  let v814 : BitVec 32 := Scalar.remsi v813 c32_i32_694
  let c1_i32_697 : BitVec 32 := 1#32
  let v816 : BitVec 32 := Scalar.muli v814 c1_i32_697
  let v817 : BitVec 32 := Scalar.addi c0_i32_698 v816
  v817.toNat
def k0_dev72 (d0 : Dev nD) : Nat :=
  let c0_i32_705 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_700 : BitVec 32 := 9#32
  let v823 : BitVec 32 := Scalar.addi v2 c9_i32_700
  let c32_i32_701 : BitVec 32 := 32#32
  let v824 : BitVec 32 := Scalar.remsi v823 c32_i32_701
  let c1_i32_704 : BitVec 32 := 1#32
  let v826 : BitVec 32 := Scalar.muli v824 c1_i32_704
  let v827 : BitVec 32 := Scalar.addi c0_i32_705 v826
  v827.toNat
def k0_dev73 (d0 : Dev nD) : Nat :=
  let c0_i32_712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_707 : BitVec 32 := 10#32
  let v833 : BitVec 32 := Scalar.addi v2 c10_i32_707
  let c32_i32_708 : BitVec 32 := 32#32
  let v834 : BitVec 32 := Scalar.remsi v833 c32_i32_708
  let c1_i32_711 : BitVec 32 := 1#32
  let v836 : BitVec 32 := Scalar.muli v834 c1_i32_711
  let v837 : BitVec 32 := Scalar.addi c0_i32_712 v836
  v837.toNat
def k0_dev74 (d0 : Dev nD) : Nat :=
  let c0_i32_719 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_714 : BitVec 32 := 11#32
  let v843 : BitVec 32 := Scalar.addi v2 c11_i32_714
  let c32_i32_715 : BitVec 32 := 32#32
  let v844 : BitVec 32 := Scalar.remsi v843 c32_i32_715
  let c1_i32_718 : BitVec 32 := 1#32
  let v846 : BitVec 32 := Scalar.muli v844 c1_i32_718
  let v847 : BitVec 32 := Scalar.addi c0_i32_719 v846
  v847.toNat
def k0_dev75 (d0 : Dev nD) : Nat :=
  let c0_i32_726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_721 : BitVec 32 := 12#32
  let v853 : BitVec 32 := Scalar.addi v2 c12_i32_721
  let c32_i32_722 : BitVec 32 := 32#32
  let v854 : BitVec 32 := Scalar.remsi v853 c32_i32_722
  let c1_i32_725 : BitVec 32 := 1#32
  let v856 : BitVec 32 := Scalar.muli v854 c1_i32_725
  let v857 : BitVec 32 := Scalar.addi c0_i32_726 v856
  v857.toNat
def k0_dev76 (d0 : Dev nD) : Nat :=
  let c0_i32_733 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_728 : BitVec 32 := 13#32
  let v863 : BitVec 32 := Scalar.addi v2 c13_i32_728
  let c32_i32_729 : BitVec 32 := 32#32
  let v864 : BitVec 32 := Scalar.remsi v863 c32_i32_729
  let c1_i32_732 : BitVec 32 := 1#32
  let v866 : BitVec 32 := Scalar.muli v864 c1_i32_732
  let v867 : BitVec 32 := Scalar.addi c0_i32_733 v866
  v867.toNat
def k0_dev77 (d0 : Dev nD) : Nat :=
  let c0_i32_740 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_735 : BitVec 32 := 14#32
  let v873 : BitVec 32 := Scalar.addi v2 c14_i32_735
  let c32_i32_736 : BitVec 32 := 32#32
  let v874 : BitVec 32 := Scalar.remsi v873 c32_i32_736
  let c1_i32_739 : BitVec 32 := 1#32
  let v876 : BitVec 32 := Scalar.muli v874 c1_i32_739
  let v877 : BitVec 32 := Scalar.addi c0_i32_740 v876
  v877.toNat
def k0_dev78 (d0 : Dev nD) : Nat :=
  let c0_i32_747 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_742 : BitVec 32 := 15#32
  let v883 : BitVec 32 := Scalar.addi v2 c15_i32_742
  let c32_i32_743 : BitVec 32 := 32#32
  let v884 : BitVec 32 := Scalar.remsi v883 c32_i32_743
  let c1_i32_746 : BitVec 32 := 1#32
  let v886 : BitVec 32 := Scalar.muli v884 c1_i32_746
  let v887 : BitVec 32 := Scalar.addi c0_i32_747 v886
  v887.toNat
def k0_dev79 (d0 : Dev nD) : Nat :=
  let c0_i32_754 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_749 : BitVec 32 := 16#32
  let v893 : BitVec 32 := Scalar.addi v2 c16_i32_749
  let c32_i32_750 : BitVec 32 := 32#32
  let v894 : BitVec 32 := Scalar.remsi v893 c32_i32_750
  let c1_i32_753 : BitVec 32 := 1#32
  let v896 : BitVec 32 := Scalar.muli v894 c1_i32_753
  let v897 : BitVec 32 := Scalar.addi c0_i32_754 v896
  v897.toNat
def k0_dev80 (d0 : Dev nD) : Nat :=
  let c0_i32_761 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_756 : BitVec 32 := 17#32
  let v903 : BitVec 32 := Scalar.addi v2 c17_i32_756
  let c32_i32_757 : BitVec 32 := 32#32
  let v904 : BitVec 32 := Scalar.remsi v903 c32_i32_757
  let c1_i32_760 : BitVec 32 := 1#32
  let v906 : BitVec 32 := Scalar.muli v904 c1_i32_760
  let v907 : BitVec 32 := Scalar.addi c0_i32_761 v906
  v907.toNat
def k0_dev81 (d0 : Dev nD) : Nat :=
  let c0_i32_768 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_763 : BitVec 32 := 18#32
  let v913 : BitVec 32 := Scalar.addi v2 c18_i32_763
  let c32_i32_764 : BitVec 32 := 32#32
  let v914 : BitVec 32 := Scalar.remsi v913 c32_i32_764
  let c1_i32_767 : BitVec 32 := 1#32
  let v916 : BitVec 32 := Scalar.muli v914 c1_i32_767
  let v917 : BitVec 32 := Scalar.addi c0_i32_768 v916
  v917.toNat
def k0_dev82 (d0 : Dev nD) : Nat :=
  let c0_i32_775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_770 : BitVec 32 := 19#32
  let v923 : BitVec 32 := Scalar.addi v2 c19_i32_770
  let c32_i32_771 : BitVec 32 := 32#32
  let v924 : BitVec 32 := Scalar.remsi v923 c32_i32_771
  let c1_i32_774 : BitVec 32 := 1#32
  let v926 : BitVec 32 := Scalar.muli v924 c1_i32_774
  let v927 : BitVec 32 := Scalar.addi c0_i32_775 v926
  v927.toNat
def k0_dev83 (d0 : Dev nD) : Nat :=
  let c0_i32_782 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_777 : BitVec 32 := 20#32
  let v933 : BitVec 32 := Scalar.addi v2 c20_i32_777
  let c32_i32_778 : BitVec 32 := 32#32
  let v934 : BitVec 32 := Scalar.remsi v933 c32_i32_778
  let c1_i32_781 : BitVec 32 := 1#32
  let v936 : BitVec 32 := Scalar.muli v934 c1_i32_781
  let v937 : BitVec 32 := Scalar.addi c0_i32_782 v936
  v937.toNat
def k0_dev84 (d0 : Dev nD) : Nat :=
  let c0_i32_789 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_784 : BitVec 32 := 21#32
  let v943 : BitVec 32 := Scalar.addi v2 c21_i32_784
  let c32_i32_785 : BitVec 32 := 32#32
  let v944 : BitVec 32 := Scalar.remsi v943 c32_i32_785
  let c1_i32_788 : BitVec 32 := 1#32
  let v946 : BitVec 32 := Scalar.muli v944 c1_i32_788
  let v947 : BitVec 32 := Scalar.addi c0_i32_789 v946
  v947.toNat
def k0_dev85 (d0 : Dev nD) : Nat :=
  let c0_i32_796 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_791 : BitVec 32 := 22#32
  let v953 : BitVec 32 := Scalar.addi v2 c22_i32_791
  let c32_i32_792 : BitVec 32 := 32#32
  let v954 : BitVec 32 := Scalar.remsi v953 c32_i32_792
  let c1_i32_795 : BitVec 32 := 1#32
  let v956 : BitVec 32 := Scalar.muli v954 c1_i32_795
  let v957 : BitVec 32 := Scalar.addi c0_i32_796 v956
  v957.toNat
def k0_dev86 (d0 : Dev nD) : Nat :=
  let c0_i32_803 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_798 : BitVec 32 := 23#32
  let v963 : BitVec 32 := Scalar.addi v2 c23_i32_798
  let c32_i32_799 : BitVec 32 := 32#32
  let v964 : BitVec 32 := Scalar.remsi v963 c32_i32_799
  let c1_i32_802 : BitVec 32 := 1#32
  let v966 : BitVec 32 := Scalar.muli v964 c1_i32_802
  let v967 : BitVec 32 := Scalar.addi c0_i32_803 v966
  v967.toNat
def k0_dev87 (d0 : Dev nD) : Nat :=
  let c0_i32_810 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_805 : BitVec 32 := 24#32
  let v973 : BitVec 32 := Scalar.addi v2 c24_i32_805
  let c32_i32_806 : BitVec 32 := 32#32
  let v974 : BitVec 32 := Scalar.remsi v973 c32_i32_806
  let c1_i32_809 : BitVec 32 := 1#32
  let v976 : BitVec 32 := Scalar.muli v974 c1_i32_809
  let v977 : BitVec 32 := Scalar.addi c0_i32_810 v976
  v977.toNat
def k0_dev88 (d0 : Dev nD) : Nat :=
  let c0_i32_817 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_812 : BitVec 32 := 25#32
  let v983 : BitVec 32 := Scalar.addi v2 c25_i32_812
  let c32_i32_813 : BitVec 32 := 32#32
  let v984 : BitVec 32 := Scalar.remsi v983 c32_i32_813
  let c1_i32_816 : BitVec 32 := 1#32
  let v986 : BitVec 32 := Scalar.muli v984 c1_i32_816
  let v987 : BitVec 32 := Scalar.addi c0_i32_817 v986
  v987.toNat
def k0_dev89 (d0 : Dev nD) : Nat :=
  let c0_i32_824 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_819 : BitVec 32 := 26#32
  let v993 : BitVec 32 := Scalar.addi v2 c26_i32_819
  let c32_i32_820 : BitVec 32 := 32#32
  let v994 : BitVec 32 := Scalar.remsi v993 c32_i32_820
  let c1_i32_823 : BitVec 32 := 1#32
  let v996 : BitVec 32 := Scalar.muli v994 c1_i32_823
  let v997 : BitVec 32 := Scalar.addi c0_i32_824 v996
  v997.toNat
def k0_dev90 (d0 : Dev nD) : Nat :=
  let c0_i32_831 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_826 : BitVec 32 := 27#32
  let v1003 : BitVec 32 := Scalar.addi v2 c27_i32_826
  let c32_i32_827 : BitVec 32 := 32#32
  let v1004 : BitVec 32 := Scalar.remsi v1003 c32_i32_827
  let c1_i32_830 : BitVec 32 := 1#32
  let v1006 : BitVec 32 := Scalar.muli v1004 c1_i32_830
  let v1007 : BitVec 32 := Scalar.addi c0_i32_831 v1006
  v1007.toNat
def k0_dev91 (d0 : Dev nD) : Nat :=
  let c0_i32_838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_833 : BitVec 32 := 28#32
  let v1013 : BitVec 32 := Scalar.addi v2 c28_i32_833
  let c32_i32_834 : BitVec 32 := 32#32
  let v1014 : BitVec 32 := Scalar.remsi v1013 c32_i32_834
  let c1_i32_837 : BitVec 32 := 1#32
  let v1016 : BitVec 32 := Scalar.muli v1014 c1_i32_837
  let v1017 : BitVec 32 := Scalar.addi c0_i32_838 v1016
  v1017.toNat
def k0_dev92 (d0 : Dev nD) : Nat :=
  let c0_i32_845 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_840 : BitVec 32 := 29#32
  let v1023 : BitVec 32 := Scalar.addi v2 c29_i32_840
  let c32_i32_841 : BitVec 32 := 32#32
  let v1024 : BitVec 32 := Scalar.remsi v1023 c32_i32_841
  let c1_i32_844 : BitVec 32 := 1#32
  let v1026 : BitVec 32 := Scalar.muli v1024 c1_i32_844
  let v1027 : BitVec 32 := Scalar.addi c0_i32_845 v1026
  v1027.toNat
def k0_dev93 (d0 : Dev nD) : Nat :=
  let c0_i32_852 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_847 : BitVec 32 := 30#32
  let v1033 : BitVec 32 := Scalar.addi v2 c30_i32_847
  let c32_i32_848 : BitVec 32 := 32#32
  let v1034 : BitVec 32 := Scalar.remsi v1033 c32_i32_848
  let c1_i32_851 : BitVec 32 := 1#32
  let v1036 : BitVec 32 := Scalar.muli v1034 c1_i32_851
  let v1037 : BitVec 32 := Scalar.addi c0_i32_852 v1036
  v1037.toNat
def k0_dev94 (d0 : Dev nD) : Nat :=
  let c0_i32_859 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_854 : BitVec 32 := 31#32
  let v1043 : BitVec 32 := Scalar.addi v2 c31_i32_854
  let c32_i32_855 : BitVec 32 := 32#32
  let v1044 : BitVec 32 := Scalar.remsi v1043 c32_i32_855
  let c1_i32_858 : BitVec 32 := 1#32
  let v1046 : BitVec 32 := Scalar.muli v1044 c1_i32_858
  let v1047 : BitVec 32 := Scalar.addi c0_i32_859 v1046
  v1047.toNat
def k0_off9 (d0 : Dev nD) (c1_i32_1110 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1109 : BitVec 32 := 32#32
  let v1301 : BitVec 32 := Scalar.addi v2 c32_i32_1109
  let v1302 : BitVec 32 := Scalar.subi v1301 c1_i32_1110
  let c32_i32_1111 : BitVec 32 := 32#32
  let v1303 : BitVec 32 := Scalar.remsi v1302 c32_i32_1111
  let c24_i32_1112 : BitVec 32 := 24#32
  let v1304 : BitVec 32 := Scalar.muli v1303 c24_i32_1112
  let c0_i32_1116 : BitVec 32 := 0#32
  ![v1304.toNat, 0]
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x12288 : Shape := ⟨2, ![768, 12288]⟩
abbrev S12288x768 : Shape := ⟨2, ![12288, 768]⟩
abbrev S768x768 : Shape := ⟨2, ![768, 768]⟩

abbrev nBuf : Space → Nat
  | .hbm => 3
  | .vmem => 0
  | .smem => 0
  | _ => 0

abbrev bufTy : (tb : Table) → Fin (tcTables nBuf tb) → BufTy
  | .hbm, ⟨0, _⟩ => ⟨S768x12288, .f32⟩
  | .hbm, ⟨1, _⟩ => ⟨S12288x768, .f32⟩
  | .hbm, ⟨2, _⟩ => ⟨S768x768, .f32⟩
  | _, _ => ⟨S768x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Ideal.Loop.lean ====
/- The kernel's body as straight loops. The printed body spells each of its six Python loops out, one
   statement a turn; here every loop is written once, over its turn, and the printed body is shown equal
   to the loops in order. -/
module

public import proofs.«01_k».proof.Proof.Gen.KernelIdeal.Skeleton
public import Idealize.ShloMosaic.Lib.Pipeline.Regions

@[expose] public section

noncomputable section

namespace Cert.KernelIdeal.Hand

open Idealize.ShloMosaic Idealize.SL.Sem Cert.KernelIdeal.Gen

variable {F : FTy → Type} [FloatOps F]

/-- Turn after turn of a loop of `n` turns. -/
def turns {E : Type → Type} : (n : ℕ) → (Fin n → Prog E PUnit) → Prog E PUnit
  | 0, _ => pure ⟨⟩
  | n + 1, f => f 0 >>= fun _ => turns n fun i => f i.succ

/-- The word a turn's distance is: turn `k` has distance `k + 1`. -/
abbrev word (k : Fin 31) : BitVec 32 := BitVec.ofNat 32 (1 + k.val)

/-- The device at a distance after `d`, as the kernel computes it. -/
def devW (d : Dev nD) (w : BitVec 32) : ℕ :=
  (Scalar.addi 0#32 (Scalar.muli (Scalar.remsi (Scalar.addi (Scalar.remsi (Scalar.divsi (Dev.word d) 1#32) 32#32) w) 32#32) 1#32)).toNat

theorem devW_eq : ∀ (d : Dev nD) (k : Fin 31), devW d (word k) = (d.val + k.val + 1) % 32 := by decide +kernel

theorem devW_lt (d : Dev nD) (k : Fin 31) : devW d (word k) < nD := by
  rw [devW_eq]; exact Nat.mod_lt _ (by decide)

/-- The device a barrier signal goes to, as the kernel computes it. -/
def sigW (p : Fin 32) : ℕ := (Scalar.addi 0#32 (Scalar.muli (BitVec.ofNat 32 p.val) 1#32)).toNat

theorem sigW_eq : ∀ p : Fin 32, sigW p = p.val := by decide +kernel

theorem sigW_lt (p : Fin 32) : sigW p < nD := by rw [sigW_eq]; exact p.isLt

theorem inb1 (k : Fin 31) : ∀ a, (![k.val] : Fin 1 → ℕ) a + S1.size a ≤ S32.size a := by
  revert k; decide +kernel

/-- Cell `k` of an array of 32 completion semaphores. -/
abbrev semAt (a : DmaSems sig S32) (k : Fin 31) : DmaSem sig :=
  ((a.slice (Rect.unit (s := S32) ![k.val] S1.size (inb1 k))).squeeze S_ squeezes_S1_S_).sem

/-- The cell of the device itself. -/
abbrev semMe (a : DmaSems sig S32) (d : Dev nD) : DmaSem sig :=
  ((a.slice (Rect.unit (s := S32) (k0_off1 d) S1.size (k0_off1_inb d))).squeeze S_ squeezes_S1_S_).sem

/-- The cell of the device a turn waits for. -/
abbrev semFrom (a : DmaSems sig S32) (d : Dev nD) (k : Fin 31) : DmaSem sig :=
  ((a.slice (Rect.unit (s := S32) (k0_off6 d (word k)) S1.size (k0_off6_inb d k))).squeeze S_ squeezes_S1_S_).sem

/-- The slot of the receive buffer that is device `d`'s. -/
abbrev slotMe (b : Memref sig .tc .vmem S32x24x768 .f32) (d : Dev nD) : Memref sig .tc .vmem S24x768 .f32 :=
  (b.slice (Rect.unit (s := S32x24x768) (k0_off2 d) S1x24x768.size (k0_off2_inb d)) (fun _ => rfl)).squeeze S24x768 squeezes_S1x24x768_S24x768

/-- The slot of the device a turn waits for. -/
abbrev slotFrom (b : Memref sig .tc .vmem S32x24x768 .f32) (d : Dev nD) (k : Fin 31) : Memref sig .tc .vmem S24x768 .f32 :=
  (b.slice (Rect.unit (s := S32x24x768) (k0_off7 d (word k)) S1x24x768.size (k0_off7_inb d k)) (fun _ => rfl)).squeeze S24x768 squeezes_S1x24x768_S24x768

/-- The rows of the partial product that turn `k` sends. -/
abbrev rowsTo (b : Memref sig .tc .vmem S768x768 .f32) (d : Dev nD) (k : Fin 31) : Memref sig .tc .vmem S24x768 .f32 :=
  b.slice (Rect.unit (s := S768x768) (k0_off3 d (word k)) S24x768.size (k0_off3_inb d k)) (fun _ => rfl)

/-- The rows that are device `d`'s. -/
abbrev rowsMe (b : Memref sig .tc .vmem S768x768 .f32) (d : Dev nD) : Memref sig .tc .vmem S24x768 .f32 :=
  b.slice (Rect.unit (s := S768x768) (k0_off8 d) S24x768.size (k0_off8_inb d)) (fun _ => rfl)

/-- The rows of the device a turn waits for. -/
abbrev rowsFrom (b : Memref sig .tc .vmem S768x768 .f32) (d : Dev nD) (k : Fin 31) : Memref sig .tc .vmem S24x768 .f32 :=
  b.slice (Rect.unit (s := S768x768) (k0_off9 d (word k)) S24x768.size (k0_off9_inb d k)) (fun _ => rfl)

section
variable (arg0 : Memref sig .tc .vmem S768x384 .f32) (harg0 : arg0.IsWhole) (arg1 : Memref sig .tc .vmem S384x768 .f32) (harg1 : arg1.IsWhole)
  (arg2 : Memref sig .tc .vmem S768x768 .f32) (harg2 : arg2.IsWhole) (arg3 : Memref sig .tc .vmem S768x768 .f32) (harg3 : arg3.IsWhole)
  (arg4 : Memref sig .tc .vmem S24x768 .f32) (harg4 : arg4.IsWhole) (arg5 : Memref sig .tc .vmem S32x24x768 .f32) (harg5 : arg5.IsWhole)
  (arg6 arg7 arg8 arg9 : DmaSems sig S32) (d : Dev nD)

/-- One barrier signal. -/
def sigStep (p : Fin 32) : Prog (TpuEff nD τ sig (Elt F) Λ₀ .tc) PUnit :=
  semSignalWord (⟨sigW p, sigW_lt p⟩ : Dev nD) (SemArray.scalar (sig.barrier 0 rfl) : Sems sig S_).sem 1#32

/-- One copy of a chunk of the partial product to the device it belongs to. -/
def rsStep (k : Fin 31) : Prog (TpuEff nD τ sig (Elt F) Λ₀ .tc) PUnit :=
  Prog.lift (.enqueueDma (rowsTo arg3 d k) (.remote (Dev.tc (⟨devW d (word k), devW_lt d k⟩ : Dev nD)) (slotMe arg5 d) (.dma (semAt arg6 k)))
    (.dma (semMe arg7 d)) (View.wordExact_bits rfl) ((View.wordExact_bits rfl).reshape _ _) ⟨⟨rfl, Or.inl rfl⟩, trivial⟩)

/-- One wait for a chunk to arrive. -/
def rsRecvStep (k : Fin 31) : Prog (TpuEff nD τ sig (Elt F) Λ₀ .tc) PUnit :=
  Prog.lift (.waitDma2 (semFrom arg7 d k) arg4 (slotFrom arg5 d k) harg4.wordExact ((View.wordExact_bits rfl).reshape _ _))

/-- One copy of the finished rows to another device. -/
def agStep (k : Fin 31) : Prog (TpuEff nD τ sig (Elt F) Λ₀ .tc) PUnit :=
  Prog.lift (.enqueueDma arg4 (.remote (Dev.tc (⟨devW d (word k), devW_lt d k⟩ : Dev nD)) (rowsMe arg2 d) (.dma (semAt arg8 k)))
    (.dma (semMe arg9 d)) harg4.wordExact (View.wordExact_bits rfl) ⟨⟨rfl, Or.inl rfl⟩, trivial⟩)

/-- One wait for a copy of a chunk to have left. -/
def rsSentStep (k : Fin 31) : Prog (TpuEff nD τ sig (Elt F) Λ₀ .tc) PUnit :=
  Prog.lift (.waitDma2 (semAt arg6 k) (slotMe arg5 d) (rowsTo arg3 d k) ((View.wordExact_bits rfl).reshape _ _) (View.wordExact_bits rfl))

/-- One wait for finished rows to arrive. -/
def agRecvStep (k : Fin 31) : Prog (TpuEff nD τ sig (Elt F) Λ₀ .tc) PUnit :=
  Prog.lift (.waitDma2 (semFrom arg9 d k) arg4 (rowsFrom arg2 d k) harg4.wordExact (View.wordExact_bits rfl))

/-- One wait for a copy of the finished rows to have left. -/
def agSentStep (k : Fin 31) : Prog (TpuEff nD τ sig (Elt F) Λ₀ .tc) PUnit :=
  Prog.lift (.waitDma2 (semAt arg8 k) (rowsMe arg2 d) arg4 (View.wordExact_bits rfl) harg4.wordExact)

/-- The partial product, computed and stored. -/
def mulPart : Prog (TpuEff nD τ sig (Elt F) Λ₀ .tc) PUnit := do
  let v68 : Vec F S768x384 .f32 ← Prog.lift (.load arg0 (Rect.unit (s := S768x384) ![0, 0] S768x384.size inb_S768x384_S768x384_0_0).toLoadRect (View.loadsAt_vmem h_S768x384))
  let v70 : Vec F S384x768 .f32 ← Prog.lift (.load arg1 (Rect.unit (s := S384x768) ![0, 0] S384x768.size inb_S384x768_S384x768_0_0).toLoadRect (View.loadsAt_vmem h_S384x768))
  let v73 : Vec F S768x768 .f32 ← Prog.lift (.load arg3 (Rect.unit (s := S768x768) ![0, 0] S768x768.size inb_S768x768_S768x768_0_0).toLoadRect (View.loadsAt_vmem h_S768x768))
  Prog.lift (.store arg3 (Rect.unit (s := S768x768) ![0, 0] S768x768.size inb_S768x768_S768x768_0_0) (k0_pay2 (k0_pay1 v68) v70) Finset.univ (View.stores_vmem_bits_univ h_S768x768 rfl) (.inl rfl))

/-- The device's own chunk, put in its own slot. -/
def ownPart : Prog (TpuEff nD τ sig (Elt F) Λ₀ .tc) PUnit := do
  let v450 : Vec F S24x768 .f32 ← Prog.lift (.load arg3 (Rect.unit (s := S768x768) (k0_off4 d) S24x768.size (k0_off4_inb d)).toLoadRect (View.loadsAt_vmem h_S24x768))
  let v452 : Vec F S1x24x768 .f32 ← Prog.lift (.load arg5 (Rect.unit (s := S32x24x768) (k0_off5 d) S1x24x768.size (k0_off5_inb d)).toLoadRect (View.loadsAt_vmem h_S1x24x768))
  Prog.lift (.store arg5 (Rect.unit (s := S32x24x768) (k0_off5 d) S1x24x768.size (k0_off5_inb d)) (k0_pay3 v450) Finset.univ (View.stores_vmem_bits_univ h_S1x24x768 rfl) (.inl rfl))

/-- The slots summed, the sum stored, and copied to the device's own rows of its result. -/
def sumPart : Prog (TpuEff nD τ sig (Elt F) Λ₀ .tc) PUnit := do
  let v734 : Vec F S32x24x768 .f32 ← Prog.lift (.load arg5 (Rect.unit (s := S32x24x768) ![0, 0, 0] S32x24x768.size inb_S32x24x768_S32x24x768_0_0_0).toLoadRect (View.loadsAt_vmem h_S32x24x768))
  let v736 : Vec F S24x768 .f32 ← Prog.lift (.load arg4 (Rect.unit (s := S24x768) ![0, 0] S24x768.size inb_S24x768_S24x768_0_0).toLoadRect (View.loadsAt_vmem h_S24x768))
  Prog.lift (.store arg4 (Rect.unit (s := S24x768) ![0, 0] S24x768.size inb_S24x768_S24x768_0_0) (k0_pay4 v734) Finset.univ (View.stores_vmem_bits_univ h_S24x768 rfl) (.inl rfl))
  let v739 : Vec F S24x768 .f32 ← Prog.lift (.load arg4 (Rect.unit (s := S24x768) ![0, 0] S24x768.size inb_S24x768_S24x768_0_0).toLoadRect (View.loadsAt_vmem h_S24x768))
  let v742 : Vec F S24x768 .f32 ← Prog.lift (.load arg2 (Rect.unit (s := S768x768) (k0_off4 d) S24x768.size (k0_off4_inb d)).toLoadRect (View.loadsAt_vmem h_S24x768))
  Prog.lift (.store arg2 (Rect.unit (s := S768x768) (k0_off4 d) S24x768.size (k0_off4_inb d)) v739 Finset.univ (View.stores_vmem_bits_univ h_S24x768 rfl) (.inl rfl))

/-- Everything after the device has read its own name. -/
def afterId : Prog (TpuEff nD τ sig (Elt F) Λ₀ .tc) PUnit := do
  turns 32 sigStep
  semWaitWord (SemArray.scalar (sig.barrier 0 rfl) : Sems sig S_).sem 32#32
  mulPart arg0 arg1 arg3
  turns 31 (rsStep arg3 arg5 arg6 arg7 d)
  ownPart arg3 arg5 d
  turns 31 (rsRecvStep arg4 harg4 arg5 arg7 d)
  sumPart arg2 arg4 arg5 d
  turns 31 (agStep arg2 arg4 harg4 arg8 arg9 d)
  turns 31 (rsSentStep arg3 arg5 arg6 d)
  turns 31 (agRecvStep arg2 arg4 harg4 arg9 d)
  turns 31 (agSentStep arg2 arg4 harg4 arg8 d)

end

/-- The kernel, loop by loop. -/
def loops (arg0 : Memref sig .tc .vmem S768x384 .f32) (harg0 : arg0.IsWhole) (arg1 : Memref sig .tc .vmem S384x768 .f32) (harg1 : arg1.IsWhole)
    (arg2 : Memref sig .tc .vmem S768x768 .f32) (harg2 : arg2.IsWhole) (arg3 : Memref sig .tc .vmem S768x768 .f32) (harg3 : arg3.IsWhole)
    (arg4 : Memref sig .tc .vmem S24x768 .f32) (harg4 : arg4.IsWhole) (arg5 : Memref sig .tc .vmem S32x24x768 .f32) (harg5 : arg5.IsWhole)
    (arg6 arg7 arg8 arg9 : DmaSems sig S32) : Prog (TpuEff nD τ sig (Elt F) Λ₀ .tc) PUnit := do
  let d : Dev nD ← Prog.lift .deviceId
  afterId arg0 arg1 arg2 arg3 arg4 harg4 arg5 arg6 arg7 arg8 arg9 d

theorem body_eq_loops (arg0 : Memref sig .tc .vmem S768x384 .f32) (harg0 : arg0.IsWhole) (arg1 : Memref sig .tc .vmem S384x768 .f32) (harg1 : arg1.IsWhole)
    (arg2 : Memref sig .tc .vmem S768x768 .f32) (harg2 : arg2.IsWhole) (arg3 : Memref sig .tc .vmem S768x768 .f32) (harg3 : arg3.IsWhole)
    (arg4 : Memref sig .tc .vmem S24x768 .f32) (harg4 : arg4.IsWhole) (arg5 : Memref sig .tc .vmem S32x24x768 .f32) (harg5 : arg5.IsWhole)
    (arg6 arg7 arg8 arg9 : DmaSems sig S32) :
    cc0_body_skel (F := F) arg0 harg0 arg1 harg1 arg2 harg2 arg3 harg3 arg4 harg4 arg5 harg5 arg6 arg7 arg8 arg9
      = loops arg0 harg0 arg1 harg1 arg2 harg2 arg3 harg3 arg4 harg4 arg5 harg5 arg6 arg7 arg8 arg9 := by
  chain_rfl

end Cert.KernelIdeal.Hand

end
-- ==== Proof.Ideal.Views.lean ====
/- The buffers of the kernel and what they hold: the parts of a buffer a copy reads or writes, named by the
   device they belong to, and the contents the run gives them. -/
module

public import proofs.«01_k».proof.Proof.Ideal.Loop
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueLayout
public import Idealize.ShloMosaic.Lib.ViewIndex
public import Idealize.ShloMosaic.Lib.Tactic

@[expose] public section

noncomputable section

namespace Cert.KernelIdeal.Hand

open Idealize.ShloMosaic Idealize.SL.Sem Cert.KernelIdeal.Gen
open Idealize.ShloMosaic.TcCoe
open Idealize.ShloMosaic.ValueIdx

variable {F : FTy → Type} [FloatOps F]

/-! ## The devices a turn names -/

set_option backward.proofsInPublic true in
/-- The device a turn sends to. -/
def dst (c : Dev nD) (k : Fin 31) : Dev nD := ⟨(c.val + k.val + 1) % 32, Nat.mod_lt _ (by decide)⟩
set_option backward.proofsInPublic true in
/-- The device a turn waits for. -/
def src (c : Dev nD) (k : Fin 31) : Dev nD := ⟨((c.val + 31) - k.val) % 32, Nat.mod_lt _ (by decide)⟩

theorem src_dst (c : Dev nD) (k : Fin 31) : src (dst c k) k = c := by revert c k; decide +kernel
theorem dst_src (c : Dev nD) (k : Fin 31) : dst (src c k) k = c := by revert c k; decide +kernel
theorem dst_ne (c : Dev nD) (k : Fin 31) : dst c k ≠ c := by revert c k; decide +kernel
theorem src_ne (c : Dev nD) (k : Fin 31) : src c k ≠ c := by revert c k; decide +kernel
theorem dst_inj (c : Dev nD) : Function.Injective (dst c) := by revert c; decide +kernel
theorem src_inj (c : Dev nD) : Function.Injective (src c) := by revert c; decide +kernel

theorem devW_dst (d : Dev nD) (k : Fin 31) : (⟨devW d (word k), devW_lt d k⟩ : Dev nD) = dst d k := Fin.ext (devW_eq d k)
theorem sigW_dev (p : Fin 32) : (⟨sigW p, sigW_lt p⟩ : Dev nD) = p := Fin.ext (sigW_eq p)

/-! ## The parts of a buffer -/

theorem rows_inb (j : Fin 32) : ∀ a, (![24 * j.val, 0] : Fin 2 → ℕ) a + S24x768.size a ≤ S768x768.size a := by
  revert j; decide +kernel
theorem slot_inb (j : Fin 32) : ∀ a, (![j.val, 0, 0] : Fin 3 → ℕ) a + S1x24x768.size a ≤ S32x24x768.size a := by
  revert j; decide +kernel

/-- The rectangle of the rows that are device `j`'s. -/
abbrev rowsRect (j : Fin 32) : Rect S768x768 := Rect.unit (s := S768x768) ![24 * j.val, 0] S24x768.size (rows_inb j)
/-- The rectangle of the slot that is device `j`'s. -/
abbrev slotRect (j : Fin 32) : Rect S32x24x768 := Rect.unit (s := S32x24x768) ![j.val, 0, 0] S1x24x768.size (slot_inb j)

/-- The rows of a 768 by 768 buffer that are device `j`'s. -/
abbrev rowsAt (b : Memref sig .tc .vmem S768x768 .f32) (j : Fin 32) : Memref sig .tc .vmem S24x768 .f32 := b.slice (rowsRect j) (fun _ => rfl)
/-- The slot of a receive buffer that is device `j`'s. -/
abbrev slotAt (b : Memref sig .tc .vmem S32x24x768 .f32) (j : Fin 32) : Memref sig .tc .vmem S24x768 .f32 :=
  (b.slice (slotRect j) (fun _ => rfl)).squeeze S24x768 squeezes_S1x24x768_S24x768

theorem slice_congr {s : Shape} (b : Memref sig .tc .vmem s .f32) (size : Fin s.rank → ℕ) {off off' : Fin s.rank → ℕ}
    (h : ∀ a, off a + size a ≤ s.size a) (h' : ∀ a, off' a + size a ≤ s.size a) (e : off = off') :
    b.slice (Rect.unit (s := s) off size h) (fun _ => rfl) = b.slice (Rect.unit (s := s) off' size h') (fun _ => rfl) := by
  subst e; rfl

theorem rowsTo_eq (b : Memref sig .tc .vmem S768x768 .f32) (d : Dev nD) (k : Fin 31) : rowsTo b d k = rowsAt b (dst d k) :=
  slice_congr b _ _ _ (k0_off3_eq d k)
theorem rowsMe_eq (b : Memref sig .tc .vmem S768x768 .f32) (d : Dev nD) : rowsMe b d = rowsAt b d :=
  slice_congr b _ _ _ (k0_off8_eq d)
theorem rowsFrom_eq (b : Memref sig .tc .vmem S768x768 .f32) (d : Dev nD) (k : Fin 31) : rowsFrom b d k = rowsAt b (src d k) :=
  slice_congr b _ _ _ (k0_off9_eq d k)
theorem slotMe_eq (b : Memref sig .tc .vmem S32x24x768 .f32) (d : Dev nD) : slotMe b d = slotAt b d :=
  congrArg (fun x : Memref sig .tc .vmem S1x24x768 .f32 => x.squeeze S24x768 squeezes_S1x24x768_S24x768) (slice_congr b _ _ _ (k0_off2_eq d))
theorem slotFrom_eq (b : Memref sig .tc .vmem S32x24x768 .f32) (d : Dev nD) (k : Fin 31) : slotFrom b d k = slotAt b (src d k) :=
  congrArg (fun x : Memref sig .tc .vmem S1x24x768 .f32 => x.squeeze S24x768 squeezes_S1x24x768_S24x768) (slice_congr b _ _ _ (k0_off7_eq d k))

abbrev aM : Memref sig .tc .vmem S768x384 .f32 := Memref.whole cc0_stg0_0
abbrev bM : Memref sig .tc .vmem S384x768 .f32 := Memref.whole cc0_stg1_0
abbrev oM : Memref sig .tc .vmem S768x768 .f32 := Memref.whole cc0_stg2_0
abbrev accM : Memref sig .tc .vmem S768x768 .f32 := Memref.whole cc0_scratch0
abbrev redM : Memref sig .tc .vmem S24x768 .f32 := Memref.whole cc0_scratch1
abbrev rsM : Memref sig .tc .vmem S32x24x768 .f32 := Memref.whole cc0_scratch2

/-- What one copy of 24 rows credits its cells. -/
abbrev N : ℕ := (redM : Memref sig .tc .vmem S24x768 .f32).view.dmaCredit
theorem N_pos : 0 < N := View.dmaCredit_pos _ (by decide)
theorem credit_rows_o (j : Fin 32) : (rowsAt oM j).view.dmaCredit = N := rfl
theorem credit_rows_acc (j : Fin 32) : (rowsAt accM j).view.dmaCredit = N := rfl
theorem credit_slot (j : Fin 32) : (slotAt rsM j).view.dmaCredit = N := rfl

/-- The elements of a 768 by 768 buffer that are device `j`'s rows. -/
def rowsSet (j : Fin 32) : Finset S768x768.Idx := (rowsRect j).set
/-- The elements of the receive buffer that are device `j`'s slot. -/
def slotSet (j : Fin 32) : Finset S32x24x768.Idx := (slotRect j).set

theorem set_rows_acc (j : Fin 32) : (rowsAt accM j).view.set = rowsSet j := View.set_slice_whole _ _
theorem set_rows_o (j : Fin 32) : (rowsAt oM j).view.set = rowsSet j := View.set_slice_whole _ _
theorem set_slot (j : Fin 32) : (slotAt rsM j).view.set = slotSet j := (View.set_reshape _ _).trans (View.set_slice_whole _ _)

theorem rows_disjoint (j j' : Fin 32) (h : j ≠ j') : Disjoint (rowsSet j) (rowsSet j') :=
  Ring.lead_disjoint (s := S768x768) (off := fun j : Fin 32 => ![24 * j.val, 0]) (size := S24x768.size) (R := 24) (a₀ := 0) rows_inb
    (fun _ => rfl) rfl j j' h
theorem rows_cover : Finset.univ.biUnion rowsSet = Finset.univ :=
  Ring.lead_cover (s := S768x768) (off := fun j : Fin 32 => ![24 * j.val, 0]) (size := S24x768.size) (R := 24) (a₀ := 0) rows_inb
    (fun _ => rfl) (fun b a h => by fin_cases a <;> first | exact absurd rfl h | rfl) rfl (fun a h => by fin_cases a <;> first | exact absurd rfl h | rfl) rfl
theorem slot_disjoint (j j' : Fin 32) (h : j ≠ j') : Disjoint (slotSet j) (slotSet j') :=
  Ring.lead_disjoint (s := S32x24x768) (off := fun j : Fin 32 => ![j.val, 0, 0]) (size := S1x24x768.size) (R := 1) (a₀ := 0) slot_inb
    (fun j => by show j.val = 1 * j.val; omega) rfl j j' h
theorem slot_cover : Finset.univ.biUnion slotSet = Finset.univ :=
  Ring.lead_cover (s := S32x24x768) (off := fun j : Fin 32 => ![j.val, 0, 0]) (size := S1x24x768.size) (R := 1) (a₀ := 0) slot_inb
    (fun j => by show j.val = 1 * j.val; omega) (fun b a h => by fin_cases a <;> first | exact absurd rfl h | rfl) rfl
    (fun a h => by fin_cases a <;> first | exact absurd rfl h | rfl) rfl

/-! ## Where a part's elements lie -/

/-- Row `x` of device `j`'s rows, in the whole buffer. -/
abbrev rowIx (j : Fin 32) (x : Fin 24) : Fin 768 := ⟨24 * j.val + x.val, by omega⟩

theorem emb_rows (j : Fin 32) (x : Fin 24) (y : Fin 768) : (rowsRect j).emb (ix2 x y) = (ix2 (rowIx j x) y : S768x768.Idx) := by
  funext a; apply Fin.ext
  match a with
  | ⟨0, _⟩ => show 24 * j.val + 1 * x.val = 24 * j.val + x.val; omega
  | ⟨1, _⟩ => show 0 + 1 * y.val = y.val; omega

theorem emb_slot (j : Fin 32) (x : Fin 24) (y : Fin 768) :
    (slotRect j).emb (ix3 (⟨0, Nat.one_pos⟩ : Fin 1) x y) = (ix3 j x y : S32x24x768.Idx) := by
  funext a; apply Fin.ext
  match a with
  | ⟨0, _⟩ => show j.val + 1 * 0 = j.val; omega
  | ⟨1, _⟩ => show 0 + 1 * x.val = x.val; omega
  | ⟨2, _⟩ => show 0 + 1 * y.val = y.val; omega

theorem slot_emb (j : Fin 32) (x : Fin 24) (y : Fin 768) : (slotAt rsM j).view.emb (ix2 x y) = (ix3 j x y : S32x24x768.Idx) := by
  show (slotRect j).emb (Shape.reshapeEquiv _ (ix2 x y)) = _
  rw [reshapeEquiv_ix2_1ab, emb_slot]

theorem ix_rows (x : S24x768.Idx) : ∃ (a : Fin 24) (b : Fin 768), x = ix2 a b := ⟨x 0, x 1, eq_ix2 x⟩
theorem ix_slot (x : S1x24x768.Idx) : ∃ (a : Fin 24) (b : Fin 768), x = ix3 (⟨0, Nat.one_pos⟩ : Fin 1) a b := by
  refine ⟨x 1, x 2, (eq_ix3 x).trans ?_⟩
  have h0 : (x 0 : Fin 1) = (⟨0, Nat.one_pos⟩ : Fin 1) := @Subsingleton.elim (Fin 1) inferInstance _ _
  exact congrArg (fun u : Fin 1 => ix3 u (x 1) (x 2)) h0

/-! ## What the run computes -/

section Contents
variable (A : Dev nD → FVec F S768x384 .f32) (B : Dev nD → FVec F S384x768 .f32)

/-- Device `c`'s partial product. -/
def part (c : Dev nD) : FVec F S768x768 .f32 := k0_pay2 (k0_pay1 (A c)) (B c)
/-- Device `c`'s receive buffer when every chunk has arrived: slot `r` holds `c`'s rows of device `r`'s partial product. -/
def rsFull (c : Dev nD) : FVec F S32x24x768 .f32 := fun i => part A B (i 0) (ix2 (rowIx c (i 1)) (i 2))
/-- The finished rows of device `c`. -/
def red (c : Dev nD) : FVec F S24x768 .f32 := k0_pay4 (rsFull A B c)
/-- The result: rows `24 j … 24 j + 23` are the finished rows of device `j`. -/
def outFull : FVec F S768x768 .f32 := fun i =>
  red A B (⟨(i 0).val / 24, by have := (i 0).isLt; have h : S768x768.size 0 = 768 := rfl; omega⟩ : Fin 32)
    (ix2 (⟨(i 0).val % 24, Nat.mod_lt _ (by decide)⟩ : Fin 24) (i 1))

theorem rsFull_apply (c : Dev nD) (r : Fin 32) (x : Fin 24) (y : Fin 768) : rsFull A B c (ix3 r x y) = part A B r (ix2 (rowIx c x) y) := rfl

theorem outFull_apply (j : Fin 32) (x : Fin 24) (y : Fin 768) : outFull A B (ix2 (rowIx j x) y) = red A B j (ix2 x y) := by
  have h1 : (⟨(24 * j.val + x.val) / 24, by omega⟩ : Fin 32) = j := Fin.ext (by show (24 * j.val + x.val) / 24 = j.val; omega)
  have h2 : (⟨(24 * j.val + x.val) % 24, Nat.mod_lt _ (by decide)⟩ : Fin 24) = x := Fin.ext (by show (24 * j.val + x.val) % 24 = x.val; omega)
  show red A B (⟨(24 * j.val + x.val) / 24, _⟩ : Fin 32) (ix2 (⟨(24 * j.val + x.val) % 24, _⟩ : Fin 24) y) = _
  rw [h1, h2]

/-- A chunk landed in its slot is what the receive buffer holds there. -/
theorem landed_slot (c j : Dev nD) (fd : FVec F S32x24x768 .f32) :
    ∀ i ∈ slotSet c, (slotAt rsM c).view.write (Elt F) fd ((rowsAt accM j).view.read (Elt F) (part A B c)) Finset.univ i = rsFull A B j i := by
  intro i hi
  rw [← set_slot] at hi
  obtain ⟨x, -, rfl⟩ := Finset.mem_map.mp hi
  obtain ⟨a, b, rfl⟩ := ix_rows x
  exact (View.write_emb_of_mem _ _ (Finset.mem_univ _)).trans
    ((congrArg (part A B c) (emb_rows j a b)).trans (congrArg (rsFull A B j) (slot_emb c a b).symm))

/-- Finished rows landed in the result are what the result holds there. -/
theorem landed_rows (c : Dev nD) (fd : FVec F S768x768 .f32) :
    ∀ i ∈ rowsSet c, (rowsAt oM c).view.write (Elt F) fd ((redM : Memref sig .tc .vmem S24x768 .f32).view.read (Elt F) (red A B c)) Finset.univ i = outFull A B i := by
  intro i hi
  rw [← set_rows_o] at hi
  obtain ⟨x, -, rfl⟩ := Finset.mem_map.mp hi
  obtain ⟨a, b, rfl⟩ := ix_rows x
  exact (View.write_emb_of_mem _ _ (Finset.mem_univ _)).trans
    ((outFull_apply A B c a b).symm.trans (congrArg (outFull A B) (emb_rows c a b).symm))

theorem pay3_apply (v : FVec F S24x768 .f32) (a : Fin 24) (b : Fin 768) :
    k0_pay3 v (ix3 (⟨0, Nat.one_pos⟩ : Fin 1) a b) = v (ix2 a b) := shapeCast_ab_1ab_apply v _ _ _ _
theorem readAt_acc (f : FVec F S768x768 .f32) (c : Fin 32) (a : Fin 24) (b : Fin 768) :
    (accM : Memref sig .tc .vmem S768x768 .f32).view.readAt (Elt F) (rowsRect c).toLoadRect f (ix2 a b) = f (ix2 (rowIx c a) b) :=
  congrArg f (emb_rows c a b)

/-- The device's own chunk stored in its own slot, likewise. -/
theorem own_slot (c : Dev nD) (fd : FVec F S32x24x768 .f32) :
    ∀ i ∈ slotSet c, ((rsM : Memref sig .tc .vmem S32x24x768 .f32).access (slotRect c)).write (Elt F) fd
      (k0_pay3 ((accM : Memref sig .tc .vmem S768x768 .f32).view.readAt (Elt F) (rowsRect c).toLoadRect (part A B c))) Finset.univ i = rsFull A B c i := by
  intro i hi
  rw [← set_slot, View.set_reshape] at hi
  obtain ⟨x, -, rfl⟩ := Finset.mem_map.mp hi
  obtain ⟨a, b, rfl⟩ := ix_slot x
  refine (View.write_emb_of_mem (v := ((rsM : Memref sig .tc .vmem S32x24x768 .f32).access (slotRect c))) _ _ (Finset.mem_univ _)).trans ?_
  exact ((pay3_apply _ a b).trans (readAt_acc _ c a b)).trans (congrArg (rsFull A B c) (emb_slot c a b).symm)

/-- The finished rows stored in the device's own rows of its result, likewise. -/
theorem own_rows (c : Dev nD) (fd : FVec F S768x768 .f32) :
    ∀ i ∈ rowsSet c, ((oM : Memref sig .tc .vmem S768x768 .f32).access (rowsRect c)).write (Elt F) fd (red A B c) Finset.univ i = outFull A B i :=
  landed_rows A B c fd

end Contents

end Cert.KernelIdeal.Hand

end
-- ==== Proof.Ideal.Protocol.lean ====
/- Who signals whom and what each signal hands over: the cells of the kernel, the round each of them goes
   through, what every device owes and the order in which cells are waited for. -/
module

public import proofs.«01_k».proof.Proof.Ideal.Views
public import Idealize.ShloMosaic.Lib.Transfers

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

abbrev UB := URounds (GSem nD τ sig) (Fin 32)
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

/-! ## The cells -/

/-- The barrier's semaphore. -/
abbrev barS : Sem sig := (SemArray.scalar (sig.barrier 0 rfl) : Sems sig S_).sem

/-- The kernel's cells on one device: the barrier, and four arrays of 32 completion semaphores — chunks sent (0),
    chunks received (1), finished rows sent (2), finished rows received (3). -/
abbrev KIx := Option (Fin 4 × Fin 32)

theorem cell_lt (a : Fin 4) (k : Fin 32) : 3 + 32 * a.val + k.val < sig.nDmaSem := by
  have : sig.nDmaSem = 131 := rfl
  omega

/-- Completion semaphore `k` of array `a`. -/
def xsem (ak : Fin 4 × Fin 32) : DmaSem sig := ⟨3 + 32 * ak.1.val + ak.2.val, cell_lt ak.1 ak.2⟩
def osem (ak : Fin 4 × Fin 32) : SemLoc sig := .dma (xsem ak)
def csem : KIx → SemLoc sig
  | none => .reg barS
  | some ak => osem ak
def kcell (ck : Dev nD × KIx) : GSem nD τ sig := ((ck.1 : Thread nD τ), csem ck.2)

theorem xsem_inj : Function.Injective xsem := by
  rintro ⟨a, k⟩ ⟨a', k'⟩ h
  have hv : 3 + 32 * a.val + k.val = 3 + 32 * a'.val + k'.val := congrArg Fin.val h
  have ha : a = a' := Fin.ext (by omega)
  subst ha
  have hk : k = k' := Fin.ext (by omega)
  rw [hk]

theorem osem_inj : Function.Injective osem := fun x y h => xsem_inj (SemLoc.dma.inj h)

theorem csem_inj : Function.Injective csem := by
  rintro (_ | x) (_ | y) h
  · rfl
  · exact absurd h (fun h => by cases h)
  · exact absurd h (fun h => by cases h)
  · exact congrArg some (osem_inj h)

theorem kcell_inj : Function.Injective kcell := by
  rintro ⟨c, k⟩ ⟨c', k'⟩ h
  have h1 : c = c' := congrArg (fun g : GSem nD τ sig => g.1.1) h
  have h2 : k = k' := csem_inj (congrArg (fun g : GSem nD τ sig => g.2) h)
  rw [h1, h2]

/-- Which of the kernel's cells a cell of the machine is, if any. -/
def kdec (g : GSem nD τ sig) : Option (Dev nD × KIx) := Function.partialInv kcell g
theorem kdec_kcell (ck : Dev nD × KIx) : kdec (kcell ck) = some ck := Function.partialInv_left kcell_inj ck

/-- A turn's index among all 32. -/
abbrev up (k : Fin 31) : Fin 32 := ⟨k.val, by omega⟩

theorem semAt_0 : ∀ k : Fin 31, semAt cc0_scratch3 k = xsem (0, up k) := by decide +kernel
theorem semAt_2 : ∀ k : Fin 31, semAt cc0_scratch5 k = xsem (2, up k) := by decide +kernel
theorem semMe_1 : ∀ d : Dev nD, semMe cc0_scratch4 d = xsem (1, d) := by decide +kernel
theorem semMe_3 : ∀ d : Dev nD, semMe cc0_scratch6 d = xsem (3, d) := by decide +kernel
theorem semFrom_1 : ∀ (d : Dev nD) (k : Fin 31), semFrom cc0_scratch4 d k = xsem (1, src d k) := by decide +kernel
theorem semFrom_3 : ∀ (d : Dev nD) (k : Fin 31), semFrom cc0_scratch6 d k = xsem (3, src d k) := by decide +kernel

/-! ## What the cells hand over -/

/-- Device `j`'s rows of `c`'s partial product. -/
def accPts (c j : Dev nD) (f : FVec F S768x768 .f32) : sProp 𝕄 := ((c : Thread nD τ).loc cc0_scratch0) ↦[rowsSet j]{fullShare} f
/-- Slot `j` of `c`'s receive buffer. -/
def slotPts (c j : Dev nD) (f : FVec F S32x24x768 .f32) : sProp 𝕄 := ((c : Thread nD τ).loc cc0_scratch2) ↦[slotSet j]{fullShare} f
/-- Device `j`'s rows of `c`'s result. -/
def outPts (c j : Dev nD) (f : FVec F S768x768 .f32) : sProp 𝕄 := ((c : Thread nD τ).loc cc0_stg2_0) ↦[rowsSet j]{fullShare} f
/-- A share of `c`'s finished rows. -/
def redPts (c : Dev nD) (q : PosShare TreeShare) (f : FVec F S24x768 .f32) : sProp 𝕄 := ((c : Thread nD τ).loc cc0_scratch1) ↦[Finset.univ]{q} f

/-- What device `d`'s signal hands device `c`: `c`'s slot of `d`'s receive buffer and `c`'s rows of `d`'s result. -/
def barPay (c d : Dev nD) : sProp 𝕄 := iprop((∃ f, slotPts d c f) ∗ (∃ f, outPts d c f))

section Sched
variable (A : Dev nD → FVec F S768x384 .f32) (B : Dev nD → FVec F S384x768 .f32)

def sentPay (c : Dev nD) (j : Fin 32) : sProp 𝕄 := if h : j.val < 31 then accPts c (dst c ⟨j.val, h⟩) (part A B c) else iprop(emp)
def recvPay (c : Dev nD) (r : Fin 32) : sProp 𝕄 := slotPts c r (rsFull A B c)
def agSentPay (c : Dev nD) (j : Fin 32) : sProp 𝕄 := if h : j.val < 31 then redPts c (shareTok fullShare 31 ⟨j.val, h⟩) (red A B c) else iprop(emp)
def agRecvPay (c : Dev nD) (r : Fin 32) : sProp 𝕄 := outPts c r (outFull A B)

def arrPay (c : Dev nD) (a : Fin 4) (j : Fin 32) : sProp 𝕄 :=
  if a = 0 then sentPay A B c j else if a = 1 then recvPay A B c j else if a = 2 then agSentPay A B c j else agRecvPay A B c j

/-- What duty `d` of a cell hands its owner. -/
def kpay (c : Dev nD) : KIx → Fin 32 → sProp 𝕄
  | none, d => barPay c d
  | some (a, j), _ => arrPay A B c a j

/-- Whether an array's cell is used: a sending array has 31 turns, a receiving array a cell for every other device. -/
def used (c : Dev nD) (a : Fin 4) (j : Fin 32) : Prop := if a = 0 ∨ a = 2 then j.val < 31 else j ≠ c
instance (c : Dev nD) (a : Fin 4) (j : Fin 32) : Decidable (used c a j) := by unfold used; infer_instance

/-- The duties of a cell's one round. -/
def kdut (c : Dev nD) : KIx → Finset (Fin 32)
  | none => Finset.univ
  | some (a, j) => if used c a j then {0} else ∅

/-- What each duty of a cell is worth. -/
def kamt : KIx → ℕ
  | none => 1
  | some _ => N

theorem kamt_pos (k : KIx) : 0 < kamt k := by
  cases k with
  | none => exact Nat.one_pos
  | some _ => exact N_pos

def Rd : Rounds.Schedule (GSem nD τ sig) (Fin 32) 𝕄 where
  duties g r := if r = 0 then (match kdec g with | none => ∅ | some ck => kdut ck.1 ck.2) else ∅
  unitless _ := False
  amount g _ _ := match kdec g with | none => 1 | some ck => kamt ck.2
  payload g _ d := match kdec g with | none => iprop(emp) | some ck => kpay A B ck.1 ck.2 d
  amount_pos g _ _ _ := by
    cases kdec g with
    | none => exact Nat.one_pos
    | some ck => exact kamt_pos ck.2

instance kpay_storable (c : Dev nD) (k : KIx) (d : Fin 32) : BI.Storable (upEmb : UEmb _ 𝕄) (kpay A B c k d) := by
  rcases k with _ | ⟨a, j⟩
  · show BI.Storable _ (barPay c d)
    unfold barPay slotPts outPts; infer_instance
  · show BI.Storable _ (arrPay A B c a j)
    unfold arrPay sentPay recvPay agSentPay agRecvPay accPts slotPts redPts outPts
    (repeat' split) <;> infer_instance

instance Rd_payload_storable (g : GSem nD τ sig) (r : ℕ) (d : Fin 32) : BI.Storable (upEmb : UEmb _ 𝕄) ((Rd A B).payload g r d) := by
  show BI.Storable _ (match kdec g with | none => iprop(emp) | some ck => kpay A B ck.1 ck.2 d : sProp 𝕄)
  split <;> infer_instance

theorem duties_k (ck : Dev nD × KIx) : (Rd A B).duties (kcell ck) 0 = kdut ck.1 ck.2 := by
  dsimp only [Rd]; rw [kdec_kcell, if_pos rfl]
theorem duties_later (g : GSem nD τ sig) : ∀ r, 1 ≤ r → (Rd A B).duties g r = ∅ := fun r hr => by dsimp only [Rd]; exact if_neg (by omega)
theorem amount_k (ck : Dev nD × KIx) (r : ℕ) (d : Fin 32) : (Rd A B).amount (kcell ck) r d = kamt ck.2 := by dsimp only [Rd]; rw [kdec_kcell]
theorem payload_k (ck : Dev nD × KIx) (r : ℕ) (d : Fin 32) : (Rd A B).payload (kcell ck) r d = kpay A B ck.1 ck.2 d := by dsimp only [Rd]; rw [kdec_kcell]

theorem expect_bar (c : Dev nD) : (Rd A B).expect (kcell (c, none)) 0 = 32 := by
  unfold Schedule.expect Schedule.amountOf
  rw [duties_k, Finset.sum_congr rfl fun d _ => amount_k A B (c, none) 0 d]
  show Finset.sum (Finset.univ : Finset (Fin 32)) (fun _ => 1) = 32
  rw [Finset.sum_const, Finset.card_univ, Fintype.card_fin, smul_eq_mul]
theorem expect_x (c : Dev nD) (a : Fin 4) (j : Fin 32) (h : used c a j) : (Rd A B).expect (kcell (c, some (a, j))) 0 = N := by
  unfold Schedule.expect Schedule.amountOf
  rw [duties_k]; show Finset.sum (if used c a j then {0} else ∅) _ = N
  rw [if_pos h, Finset.sum_singleton, amount_k]; rfl

theorem duty_bar (c d : Dev nD) : d ∈ (Rd A B).duties (kcell (c, none)) 0 := by rw [duties_k]; exact Finset.mem_univ _
theorem duty_x (c : Dev nD) (a : Fin 4) (j : Fin 32) (h : used c a j) : (0 : Fin 32) ∈ (Rd A B).duties (kcell (c, some (a, j))) 0 := by
  rw [duties_k]; show (0 : Fin 32) ∈ (if used c a j then {0} else ∅ : Finset (Fin 32))
  rw [if_pos h]; exact Finset.mem_singleton_self _

theorem rest_bar (c : Dev nD) : bigSep ((Rd A B).duties (kcell (c, none)) 0 \ ∅) (fun d => (Rd A B).payload (kcell (c, none)) 0 d)
    = bigSep Finset.univ fun d : Dev nD => barPay (F := F) c d := by
  rw [Finset.sdiff_empty, duties_k]; exact bigSep_congr fun d _ => payload_k A B _ _ _
theorem rest_x (c : Dev nD) (a : Fin 4) (j : Fin 32) (h : used c a j) :
    bigSep ((Rd A B).duties (kcell (c, some (a, j))) 0 \ ∅) (fun d => (Rd A B).payload (kcell (c, some (a, j))) 0 d) = arrPay A B c a j := by
  rw [Finset.sdiff_empty, duties_k]; show bigSep (if used c a j then {0} else ∅) _ = _
  rw [if_pos h, bigSep_singleton, payload_k]; rfl

/-- The round after a cell's last: one for a cell that is used, the first for a cell that is not. -/
def lastR (c : Dev nD) : KIx → ℕ
  | none => 1
  | some (a, j) => if used c a j then 1 else 0

theorem duties_lastR (c : Dev nD) (k : KIx) (r : ℕ) (hr : lastR c k ≤ r) : (Rd A B).duties (kcell (c, k)) r = ∅ := by
  rcases Nat.eq_zero_or_pos r with rfl | h
  · rw [duties_k]
    rcases k with _ | ⟨a, j⟩
    · exact absurd hr (show ¬ (1 ≤ 0) by decide)
    · show (if used c a j then {0} else ∅) = (∅ : Finset (Fin 32))
      by_cases hu : used c a j
      · have : (if used c a j then 1 else 0) ≤ 0 := hr
        rw [if_pos hu] at this; omega
      · rw [if_neg hu]
  · exact duties_later A B _ r h

theorem used_send0 (c : Dev nD) (k : Fin 31) : used c 0 (up k) := by unfold used; rw [if_pos (Or.inl rfl)]; exact k.isLt
theorem used_send2 (c : Dev nD) (k : Fin 31) : used c 2 (up k) := by unfold used; rw [if_pos (Or.inr rfl)]; exact k.isLt
theorem used_recv1 (c j : Dev nD) (h : j ≠ c) : used c 1 j := by unfold used; rw [if_neg (by decide)]; exact h
theorem used_recv3 (c j : Dev nD) (h : j ≠ c) : used c 3 j := by unfold used; rw [if_neg (by decide)]; exact h

theorem pay_0 (c : Dev nD) (k : Fin 31) : arrPay A B c 0 (up k) = accPts c (dst c k) (part A B c) := by
  unfold arrPay; rw [if_pos rfl]; unfold sentPay; exact dif_pos k.isLt
theorem pay_1 (c r : Dev nD) : arrPay A B c 1 r = slotPts c r (rsFull A B c) := by
  unfold arrPay; rw [if_neg (by decide), if_pos rfl]; rfl
theorem pay_2 (c : Dev nD) (k : Fin 31) : arrPay A B c 2 (up k) = redPts c (shareTok fullShare 31 k) (red A B c) := by
  unfold arrPay; rw [if_neg (by decide), if_neg (by decide), if_pos rfl]; unfold agSentPay; exact dif_pos k.isLt
theorem pay_3 (c r : Dev nD) : arrPay A B c 3 r = outPts c r (outFull A B) := by
  unfold arrPay; rw [if_neg (by decide), if_neg (by decide), if_neg (by decide)]; rfl

end Sched

/-! ## What a device owes, and the order of the waits -/

abbrev barG (c : Dev nD) : GSem nD τ sig := kcell (c, none)
abbrev xG (c : Dev nD) (a : Fin 4) (j : Fin 32) : GSem nD τ sig := kcell (c, some (a, j))

/-- The barrier signals from turn `i` on. -/
def OB (i : ℕ) : CellTallies nD τ sig Unit := ∑ p ∈ Finset.univ.filter (fun p : Fin 32 => i ≤ p.val), tallyAt (barG p) () 1
/-- The arrivals of copies from turn `i` on, in array `a`. -/
def OX (a : Fin 4) (c : Dev nD) (i : ℕ) : CellTallies nD τ sig Unit :=
  ∑ k ∈ Finset.univ.filter (fun k : Fin 31 => i ≤ k.val), tallyAt (xG (dst c k) a c) () N

/-- What device `c` owes at launch. -/
def O₀ (c : Dev nD) : CellTallies nD τ sig Unit := OB 0 + (OX 1 c 0 + OX 3 c 0)

theorem filter_step {n : ℕ} (i : ℕ) (h : i < n) :
    (Finset.univ.filter fun p : Fin n => i ≤ p.val) = insert ⟨i, h⟩ (Finset.univ.filter fun p : Fin n => i + 1 ≤ p.val) := by
  ext p
  simp only [Finset.mem_filter, Finset.mem_univ, true_and, Finset.mem_insert, Fin.ext_iff]
  omega
theorem filter_done {n : ℕ} : (Finset.univ.filter fun p : Fin n => n ≤ p.val) = ∅ := by
  ext p
  simp only [Finset.mem_filter, Finset.mem_univ, true_and, Finset.notMem_empty, iff_false]
  omega

theorem OB_step (p : Fin 32) : OB p.val = OB (p.val + 1) + tallyAt (barG p) () 1 := by
  unfold OB
  rw [filter_step p.val p.isLt, Finset.sum_insert (by simp), add_comm]
theorem OX_step (a : Fin 4) (c : Dev nD) (k : Fin 31) : OX a c k.val = OX a c (k.val + 1) + tallyAt (xG (dst c k) a c) () N := by
  unfold OX
  rw [filter_step k.val k.isLt, Finset.sum_insert (by simp), add_comm]
theorem OB_done : OB 32 = 0 := by unfold OB; rw [filter_done]; rfl
theorem OX_done (a : Fin 4) (c : Dev nD) : OX a c 31 = 0 := by unfold OX; rw [filter_done]; rfl

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The barrier is at 1, arrivals of chunks at 2, arrivals of finished rows at 3, everything else at 0. -/
def klv : KIx → ℕ
  | none => 1
  | some (a, _) => if a = 1 then 2 else if a = 3 then 3 else 0
def lv (g : GSem nD τ sig) (_ : Unit) : ℕ := match kdec g with | none => 0 | some ck => klv ck.2
theorem lv_k (ck : Dev nD × KIx) (u : Unit) : lv (kcell ck) u = klv ck.2 := by unfold lv; rw [kdec_kcell]

theorem lv_stage (c : Dev nD) (q : DmaSem sig) (hq : q.val < 3) (u : Unit) : lv ((c : Thread nD τ), .dma q) u = 0 := by
  unfold lv
  cases h : kdec ((c : Thread nD τ), SemLoc.dma q) with
  | none => rfl
  | some ck =>
    have hc : kcell ck = ((c : Thread nD τ), SemLoc.dma q) := Function.partialInv_of_injective kcell_inj _ _ |>.mp h
    obtain ⟨d, k⟩ := ck
    have h2 : csem k = SemLoc.dma q := congrArg (fun g : GSem nD τ sig => g.2) hc
    rcases k with _ | ⟨a, j⟩
    · exact absurd h2 (fun h => by cases h)
    · have h3 : xsem (a, j) = q := SemLoc.dma.inj h2
      have h4 : 3 + 32 * a.val + j.val = q.val := congrArg Fin.val h3
      omega

theorem sum_tally_pos {ι : Type} (S : Finset ι) (g' : ι → GSem nD τ sig) (n : ℕ) {g : GSem nD τ sig} {u : Unit}
    (h : 0 < (∑ x ∈ S, (tallyAt (g' x) () n : CellTallies nD τ sig Unit)) g u) : ∃ x ∈ S, g = g' x := by
  classical
  induction S using Finset.induction_on with
  | empty => exact absurd h (Nat.lt_irrefl 0)
  | insert a S ha ih =>
    rw [Finset.sum_insert ha, Pi.add_apply, Finsupp.add_apply, tallyAt_apply] at h
    by_cases hg : g = g' a
    · exact ⟨a, Finset.mem_insert_self _ _, hg⟩
    · rw [if_neg (fun h' => hg h'.1), Nat.zero_add] at h
      obtain ⟨x, hx, e⟩ := ih h
      exact ⟨x, Finset.mem_insert_of_mem hx, e⟩

/-- Every cell a device may still owe is one of the kernel's, above the level it waits at. -/
def Above (n : ℕ) (O : CellTallies nD τ sig Unit) : Prop := ∀ g u, 0 < O g u → ∃ ck, g = kcell ck ∧ n < klv ck.2

theorem Above.add {n : ℕ} {O O' : CellTallies nD τ sig Unit} (h : Above n O) (h' : Above n O') : Above n (O + O') := by
  intro g u hg
  rw [Pi.add_apply, Finsupp.add_apply] at hg
  rcases Nat.eq_zero_or_pos (O g u) with e | e
  · exact h' g u (by omega)
  · exact h g u e
theorem Above.zero (n : ℕ) : Above n 0 := fun g u h => absurd h (Nat.lt_irrefl 0)
theorem above_OB (i : ℕ) : Above 0 (OB i) := fun g u h => by
  obtain ⟨x, -, e⟩ := sum_tally_pos _ _ _ h
  exact ⟨_, e, Nat.one_pos⟩
theorem above_OX1 (c : Dev nD) (i : ℕ) {n : ℕ} (hn : n < 2) : Above n (OX 1 c i) := fun g u h => by
  obtain ⟨x, -, e⟩ := sum_tally_pos _ _ _ h
  exact ⟨_, e, hn⟩
theorem above_OX3 (c : Dev nD) (i : ℕ) {n : ℕ} (hn : n < 3) : Above n (OX 3 c i) := fun g u h => by
  obtain ⟨x, -, e⟩ := sum_tally_pos _ _ _ h
  exact ⟨_, e, hn⟩
theorem above_O₀ (c : Dev nD) : Above 0 (O₀ c) := (above_OB 0).add ((above_OX1 c 0 (by decide)).add (above_OX3 c 0 (by decide)))

theorem mayWait_at (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by
      obtain ⟨ck, rfl, -⟩ := hO g u hg
      show u ∈ L ((ck.1 : Thread nD τ), csem ck.2)
      rw [L_tc]; exact Finset.mem_singleton_self _)
    (fun p hp => by rw [Finset.mem_singleton.mp hp]; exact hn)
    (fun g u hg => by
      obtain ⟨ck, rfl, h⟩ := hO g u hg
      rw [lv_k]; exact h)

end Cert.KernelIdeal.Hand

end
-- ==== Proof.Ideal.Steps.lean ====
/- One turn of each loop of the kernel, and a loop from its turns. -/
module

public import proofs.«01_k».proof.Proof.Ideal.Protocol

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A program run on device `c` to a postcondition. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem bigSep_succ {n : ℕ} (Φ : Fin (n + 1) → sProp 𝕄) :
    bigSep Finset.univ Φ = iprop(Φ 0 ∗ bigSep Finset.univ fun k : Fin n => Φ k.succ) := by
  rw [Fin.univ_succ, Finset.cons_eq_insert, bigSep_insert (by simp [Fin.succ_ne_zero]), bigSep_map]; rfl

/-- A loop of `n` turns: turn `k` takes `X k` to `Y k` and the loop's own state from `R k` to `R (k + 1)`. -/
theorem wp_turns (c : Dev nD) (P : sProp 𝕄) [BI.Persistent P] : ∀ (n : ℕ) (f : Fin n → Prog (TpuEff nD τ sig (Elt F) Λ₀ .tc) PUnit)
    (R : ℕ → sProp 𝕄) (X Y : Fin n → sProp 𝕄)
    (_ : ∀ (k : Fin n) (Q : PUnit → sProp 𝕄), iprop(P ∗ R k.val ∗ X k) ⊢ iprop(((R (k.val + 1) ∗ Y k) -∗ Q ⟨⟩) -∗ WP c (f k) Q))
    (Q : PUnit → sProp 𝕄),
    iprop(P ∗ R 0 ∗ bigSep Finset.univ X) ⊢ iprop(((R n ∗ bigSep Finset.univ Y) -∗ Q ⟨⟩) -∗ WP c (turns n f) Q) := by
  intro n
  induction n with
  | zero =>
    intro f R X Y _ Q
    unfold turns WP
    rw [Prog.pure_eq_ret, wp_ret]
    iintro ⟨-, HR, -⟩ HQ
    imodintro
    iapply HQ
    isplitl; · iexact HR
    rw [show (Finset.univ : Finset (Fin 0)) = ∅ from rfl]
    iempintro
  | succ n ih =>
    intro f R X Y h Q
    unfold turns WP
    rw [wp_bind, bigSep_succ X, bigSep_succ Y]
    iintro ⟨#HP, HR, HX0, HX⟩ HQ
    iapply (h 0 _) $$ [HR HX0]
    · isplitr; · iexact HP
      isplitl [HR]; · iapply (show R 0 ⊢ R (0 : Fin (n + 1)).val from BI.Entails.refl _); iexact HR
      iexact HX0
    iintro ⟨HR, HY0⟩
    iapply (ih (fun i => f i.succ) (fun i => R (i + 1)) (fun i => X i.succ) (fun i => Y i.succ) (fun k Q => h k.succ Q) Q) $$ [HR HX]
    · isplitr; · iexact HP
      isplitl [HR]; · iapply (show R ((0 : Fin (n + 1)).val + 1) ⊢ R (0 + 1) from BI.Entails.refl _); iexact HR
      iexact HX
    iintro ⟨HR, HY⟩
    iapply HQ
    isplitl [HR]; · iexact HR
    isplitl [HY0] <;> iassumption

section Turns
variable (A : Dev nD → FVec F S768x384 .f32) (B : Dev nD → FVec F S384x768 .f32) (K : Dev nD × KIx → ℕ)

/-- Every cell's invariant, and that every cell's first round has begun. -/
def records : sProp 𝕄 :=
  iprop((bigSep Finset.univ fun ck : Dev nD × KIx => cellInv ER (Rd A B) (K ck) (kcell ck)) ∗ bigSep Finset.univ fun ck : Dev nD × KIx => reached ER (kcell ck) 0)

instance records_persistent : BI.Persistent (records A B K) := by unfold records; infer_instance

theorem inv_at (ck : Dev nD × KIx) : records A B K ⊢ cellInv ER (Rd A B) (K ck) (kcell ck) := by
  unfold records; iintro ⟨H, -⟩; iapply (show _ ⊢ cellInv ER (Rd A B) (K ck) (kcell ck) from bigSep_elim (Φ := fun ck : Dev nD × KIx => cellInv ER (Rd A B) (K ck) (kcell ck)) (Finset.mem_univ ck)); iexact H
theorem reached_at (ck : Dev nD × KIx) : records A B K ⊢ (reached ER (kcell ck) 0 : sProp 𝕄) := by
  unfold records; iintro ⟨-, H⟩; iapply (show _ ⊢ (reached ER (kcell ck) 0 : sProp 𝕄) from bigSep_elim (Φ := fun ck : Dev nD × KIx => (reached ER (kcell ck) 0 : sProp 𝕄)) (Finset.mem_univ ck)); iexact H

/-- What a device still owes, whatever it has waited for so far. -/
def owesX (c : Dev nD) (O : CellTallies nD τ sig Unit) : sProp 𝕄 := iprop(∃ W, owes (c : Thread nD τ) O W)

/-! ### A barrier signal -/

theorem sig_at (c n p : Dev nD) (hn : n = p) (O : CellTallies nD τ sig Unit) (Q : PUnit → sProp 𝕄) :
    iprop(records A B K ∗ owesX c (O + tallyAt (barG p) () 1) ∗ (dutyTok ER (barG p) 0 c ∗ barPay p c))
      ⊢ iprop((owesX c O -∗ Q ⟨⟩) -∗ WP c (semSignalWord n barS 1#32) Q) := by
  subst hn
  have key (W : Waits sig Unit) : iprop(cellInv ER (Rd A B) (K (n, none)) (barG n) ∗ owes (c : Thread nD τ) (O + tallyAt (barG n) () 1) W ∗ dutyTok ER (barG n) 0 c
        ∗ (Rd A B).payload (barG n) 0 c ∗ reached ER (barG n) 0)
      ⊢ iprop((owes (c : Thread nD τ) O W -∗ WP c (.ret ⟨⟩) Q) -∗ WP c (semSignalWord n barS 1#32) Q) :=
    Rounds.wp_signal 𝒱₀ ER (Rd A B) (c : Thread nD τ) none (dst := (n : Thread nD τ)) (κ := K (n, none))
      (d := c) (duty_bar A B n c) (amount_k A B (n, none) 0 c) () O rfl
  rw [show (Rd A B).payload (barG n) 0 c = barPay n c from payload_k A B (n, none) 0 c] at key
  unfold owesX
  iintro ⟨#HR, ⟨%W, HO⟩, HT, HP⟩ HQ
  iapply (key W) $$ [HO HT HP]
  · isplitr; · iapply (inv_at A B K (n, none)); iexact HR
    isplitl [HO]; · iexact HO
    isplitl [HT]; · iexact HT
    isplitl [HP]; · iexact HP
    iapply (reached_at A B K (n, none)); iexact HR
  iintro HO
  unfold WP
  rw [wp_ret]; imodintro
  iapply HQ
  iexists W; iexact HO

/-! ### A copy of a chunk, and a copy of the finished rows -/

theorem acc_pts (c j : Dev nD) (f : FVec F S768x768 .f32) :
    (((rowsAt accM j).view.loc (c : Thread nD τ)) ↦[(rowsAt accM j).view.set]{fullShare} f : sProp 𝕄) = accPts c j f := by
  unfold accPts; rw [set_rows_acc]
theorem slot_pts (c j : Dev nD) (f : FVec F S32x24x768 .f32) :
    (((slotAt rsM j).view.loc (c : Thread nD τ)) ↦[(slotAt rsM j).view.set]{fullShare} f : sProp 𝕄) = slotPts c j f := by
  unfold slotPts; rw [set_slot]
theorem out_pts (c j : Dev nD) (f : FVec F S768x768 .f32) :
    (((rowsAt oM j).view.loc (c : Thread nD τ)) ↦[(rowsAt oM j).view.set]{fullShare} f : sProp 𝕄) = outPts c j f := by
  unfold outPts; rw [set_rows_o]
theorem red_pts (c : Dev nD) (q : PosShare TreeShare) (f : FVec F S24x768 .f32) :
    (((redM : Memref sig .tc .vmem S24x768 .f32).view.loc (c : Thread nD τ)) ↦[(redM : Memref sig .tc .vmem S24x768 .f32).view.set]{q} f : sProp 𝕄) = redPts c q f := by
  unfold redPts; rw [View.set_whole]

theorem sent_rs (c : Dev nD) (k : Fin 31) :
    ((rowsAt accM (dst c k)).view.loc (c : Thread nD τ) ↦[(rowsAt accM (dst c k)).view.set]{fullShare} part A B c : sProp 𝕄)
      ⊢ (Rd A B).payload (kcell (c, some (0, up k))) 0 0 := by
  rw [payload_k]; exact Entails.of_eq ((acc_pts c (dst c k) _).trans (pay_0 A B c k).symm)
theorem landed_rs (c : Dev nD) (k : Fin 31) (fd : FVec F S32x24x768 .f32) :
    ((slotAt rsM c).view.loc (dst c k : Thread nD τ) ↦[(slotAt rsM c).view.set]{fullShare}
        ((slotAt rsM c).view.write (Elt F) fd ((rowsAt accM (dst c k)).view.read (Elt F) (part A B c)) Finset.univ) : sProp 𝕄)
      ⊢ (Rd A B).payload (kcell (dst c k, some (1, c))) 0 0 := by
  rw [payload_k]
  refine (Entails.of_eq (slot_pts (dst c k) c _)).trans ((Entails.of_eq ?_).trans (Entails.of_eq (pay_1 A B (dst c k) c).symm))
  unfold slotPts; exact pointsTo_congr (landed_slot A B c (dst c k) fd)
theorem sent_ag (c : Dev nD) (k : Fin 31) :
    ((redM : Memref sig .tc .vmem S24x768 .f32).view.loc (c : Thread nD τ) ↦[(redM : Memref sig .tc .vmem S24x768 .f32).view.set]{shareTok fullShare 31 k} red A B c : sProp 𝕄)
      ⊢ (Rd A B).payload (kcell (c, some (2, up k))) 0 0 := by
  rw [payload_k]; exact Entails.of_eq ((red_pts c _ _).trans (pay_2 A B c k).symm)
theorem landed_ag (c : Dev nD) (k : Fin 31) (fd : FVec F S768x768 .f32) :
    ((rowsAt oM c).view.loc (dst c k : Thread nD τ) ↦[(rowsAt oM c).view.set]{fullShare}
        ((rowsAt oM c).view.write (Elt F) fd ((redM : Memref sig .tc .vmem S24x768 .f32).view.read (Elt F) (red A B c)) Finset.univ) : sProp 𝕄)
      ⊢ (Rd A B).payload (kcell (dst c k, some (3, c))) 0 0 := by
  rw [payload_k]
  refine (Entails.of_eq (out_pts (dst c k) c _)).trans ((Entails.of_eq ?_).trans (Entails.of_eq (pay_3 A B (dst c k) c).symm))
  unfold outPts; exact pointsTo_congr (landed_rows A B c fd)

theorem send_rs_at (c n : Dev nD) (k : Fin 31) (hn : n = dst c k)
    {sv : Memref sig .tc .vmem S24x768 .f32} (hs : sv = rowsAt accM (dst c k))
    {dv : Memref sig (Dev.tc n : Thread nD τ).2.kind .vmem S24x768 .f32} (hd : dv = slotAt rsM c)
    {ss rs : DmaSem sig} (hss : ss = xsem (0, up k)) (hrs : rs = xsem (1, c))
    {hsc : dv.view.ref.isScScratch = false} {hsrc : sv.view.WordExact} {hdst : dv.view.WordExact}
    {hsem : DmaTarget.Typed .vmem (.dma rs) (.remote (Dev.tc n : Thread nD τ) dv (.dma ss) hsc)}
    (O : CellTallies nD τ sig Unit) (Q : PUnit → sProp 𝕄) :
    iprop(records A B K ∗ owesX c (O + tallyAt (xG (dst c k) 1 c) () N)
        ∗ (accPts c (dst c k) (part A B c) ∗ (∃ f, slotPts (dst c k) c f) ∗ dutyTok ER (xG c 0 (up k)) 0 0 ∗ dutyTok ER (xG (dst c k) 1 c) 0 0))
      ⊢ iprop(((owesX c O ∗ cred (tallyAt (xG c 0 (up k)) () N)) -∗ Q ⟨⟩)
          -∗ WP c (Prog.lift (.enqueueDma sv (.remote (Dev.tc n : Thread nD τ) dv (.dma ss) hsc) (.dma rs) hsrc hdst hsem)) Q) := by
  subst hn hs hd hss hrs
  have key (W : Waits sig Unit) (fd : _) : iprop(cellInv ER (Rd A B) (K (c, some (0, up k))) (kcell (c, some (0, up k))) ∗ cellInv ER (Rd A B) (K (dst c k, some (1, c))) (kcell (dst c k, some (1, c)))
        ∗ ((rowsAt accM (dst c k)).view.loc (c : Thread nD τ) ↦[(rowsAt accM (dst c k)).view.set]{fullShare} part A B c) ∗ ((slotAt rsM c).view.loc (dst c k : Thread nD τ) ↦[(slotAt rsM c).view.set]{fullShare} fd) ∗ owes (c : Thread nD τ) (O + tallyAt (kcell (dst c k, some (1, c))) () N) W
        ∗ dutyTok ER (kcell (c, some (0, up k))) 0 0 ∗ reached ER (kcell (c, some (0, up k))) 0 ∗ dutyTok ER (kcell (dst c k, some (1, c))) 0 0 ∗ reached ER (kcell (dst c k, some (1, c))) 0)
      ⊢ iprop(((cred (tallyAt (kcell (c, some (0, up k))) () N) ∗ owes (c : Thread nD τ) O W) -∗ WP c (.ret ⟨⟩) Q) -∗ WP c (.op (.enqueueDma (rowsAt accM (dst c k)) (.remote (dst c k : Thread nD τ) (slotAt rsM c) (.dma (xsem (0, up k))) hsc) (.dma (xsem (1, c))) hsrc hdst hsem) .ret) Q) :=
    Rounds.wp_send_pointsTo 𝒱₀ ER (Rd A B) (c : Thread nD τ) none (c' := (dst c k : Thread nD τ)) (src := rowsAt accM (dst c k)) (dst := slotAt rsM c) (k := .ret) (hsc := hsc) (hsrc := hsrc) (hdst := hdst) (hsem := hsem)
      (κ₁ := K (c, some (0, up k))) (κ₂ := K (dst c k, some (1, c))) (r₁ := 0) (r₂ := 0) (d₁ := 0) (d₂ := 0) (fs := part A B c) (fd := fd) (q := fullShare)
      (duty_x A B c 0 (up k) (used_send0 c k)) (duty_x A B (dst c k) 1 c (used_recv1 _ _ (Ne.symm (dst_ne c k)))) () () N rfl (amount_k A B (c, some (0, up k)) 0 0) (amount_k A B (dst c k, some (1, c)) 0 0) O rfl (W := W) (sent_rs A B c k) (landed_rs A B c k fd)
  unfold owesX
  iintro ⟨#HR, ⟨%W, HO⟩, HS, ⟨%fd, HD⟩, HT1, HT2⟩ HQ
  iapply (key W fd) $$ [HO HS HD HT1 HT2]
  · isplitr; · iapply (inv_at A B K (c, some (0, up k))); iexact HR
    isplitr; · iapply (inv_at A B K (dst c k, some (1, c))); iexact HR
    isplitl [HS]; · iapply (Entails.of_eq (acc_pts c (dst c k) _).symm); iexact HS
    isplitl [HD]; · iapply (Entails.of_eq (slot_pts (dst c k) c _).symm); iexact HD
    isplitl [HO]; · iexact HO
    isplitl [HT1]; · iexact HT1
    isplitr; · iapply (reached_at A B K (c, some (0, up k))); iexact HR
    isplitl [HT2]; · iexact HT2
    iapply (reached_at A B K (dst c k, some (1, c))); iexact HR
  iintro ⟨HC, HO⟩
  unfold WP
  rw [wp_ret]; imodintro
  iapply HQ
  isplitl [HO]; · iexists W; iexact HO
  iexact HC

theorem send_ag_at (c n : Dev nD) (k : Fin 31) (hn : n = dst c k)
    {dv : Memref sig (Dev.tc n : Thread nD τ).2.kind .vmem S24x768 .f32} (hd : dv = rowsAt oM c)
    {ss rs : DmaSem sig} (hss : ss = xsem (2, up k)) (hrs : rs = xsem (3, c))
    {hsc : dv.view.ref.isScScratch = false} {hsrc : (redM : Memref sig .tc .vmem S24x768 .f32).view.WordExact} {hdst : dv.view.WordExact}
    {hsem : DmaTarget.Typed .vmem (.dma rs) (.remote (Dev.tc n : Thread nD τ) dv (.dma ss) hsc)}
    (O : CellTallies nD τ sig Unit) (Q : PUnit → sProp 𝕄) :
    iprop(records A B K ∗ owesX c (O + tallyAt (xG (dst c k) 3 c) () N)
        ∗ (redPts c (shareTok fullShare 31 k) (red A B c) ∗ (∃ f, outPts (dst c k) c f) ∗ dutyTok ER (xG c 2 (up k)) 0 0 ∗ dutyTok ER (xG (dst c k) 3 c) 0 0))
      ⊢ iprop(((owesX c O ∗ cred (tallyAt (xG c 2 (up k)) () N)) -∗ Q ⟨⟩)
          -∗ WP c (Prog.lift (.enqueueDma redM (.remote (Dev.tc n : Thread nD τ) dv (.dma ss) hsc) (.dma rs) hsrc hdst hsem)) Q) := by
  subst hn hd hss hrs
  have key (W : Waits sig Unit) (fd : _) : iprop(cellInv ER (Rd A B) (K (c, some (2, up k))) (kcell (c, some (2, up k))) ∗ cellInv ER (Rd A B) (K (dst c k, some (3, c))) (kcell (dst c k, some (3, c)))
        ∗ ((redM : Memref sig .tc .vmem S24x768 .f32).view.loc (c : Thread nD τ) ↦[(redM : Memref sig .tc .vmem S24x768 .f32).view.set]{shareTok fullShare 31 k} red A B c) ∗ ((rowsAt oM c).view.loc (dst c k : Thread nD τ) ↦[(rowsAt oM c).view.set]{fullShare} fd) ∗ owes (c : Thread nD τ) (O + tallyAt (kcell (dst c k, some (3, c))) () N) W
        ∗ dutyTok ER (kcell (c, some (2, up k))) 0 0 ∗ reached ER (kcell (c, some (2, up k))) 0 ∗ dutyTok ER (kcell (dst c k, some (3, c))) 0 0 ∗ reached ER (kcell (dst c k, some (3, c))) 0)
      ⊢ iprop(((cred (tallyAt (kcell (c, some (2, up k))) () N) ∗ owes (c : Thread nD τ) O W) -∗ WP c (.ret ⟨⟩) Q) -∗ WP c (.op (.enqueueDma (redM) (.remote (dst c k : Thread nD τ) (rowsAt oM c) (.dma (xsem (2, up k))) hsc) (.dma (xsem (3, c))) hsrc hdst hsem) .ret) Q) :=
    Rounds.wp_send_pointsTo 𝒱₀ ER (Rd A B) (c : Thread nD τ) none (c' := (dst c k : Thread nD τ)) (src := redM) (dst := rowsAt oM c) (k := .ret) (hsc := hsc) (hsrc := hsrc) (hdst := hdst) (hsem := hsem)
      (κ₁ := K (c, some (2, up k))) (κ₂ := K (dst c k, some (3, c))) (r₁ := 0) (r₂ := 0) (d₁ := 0) (d₂ := 0) (fs := red A B c) (fd := fd) (q := shareTok fullShare 31 k)
      (duty_x A B c 2 (up k) (used_send2 c k)) (duty_x A B (dst c k) 3 c (used_recv3 _ _ (Ne.symm (dst_ne c k)))) () () N rfl (amount_k A B (c, some (2, up k)) 0 0) (amount_k A B (dst c k, some (3, c)) 0 0) O rfl (W := W) (sent_ag A B c k) (landed_ag A B c k fd)
  unfold owesX
  iintro ⟨#HR, ⟨%W, HO⟩, HS, ⟨%fd, HD⟩, HT1, HT2⟩ HQ
  iapply (key W fd) $$ [HO HS HD HT1 HT2]
  · isplitr; · iapply (inv_at A B K (c, some (2, up k))); iexact HR
    isplitr; · iapply (inv_at A B K (dst c k, some (3, c))); iexact HR
    isplitl [HS]; · iapply (Entails.of_eq (red_pts c _ _).symm); iexact HS
    isplitl [HD]; · iapply (Entails.of_eq (out_pts (dst c k) c _).symm); iexact HD
    isplitl [HO]; · iexact HO
    isplitl [HT1]; · iexact HT1
    isplitr; · iapply (reached_at A B K (c, some (2, up k))); iexact HR
    isplitl [HT2]; · iexact HT2
    iapply (reached_at A B K (dst c k, some (3, c))); iexact HR
  iintro ⟨HC, HO⟩
  unfold WP
  rw [wp_ret]; imodintro
  iapply HQ
  isplitl [HO]; · iexists W; iexact HO
  iexact HC

/-! ### A wait -/

theorem wait_at (c : Dev nD) (a : Fin 4) (j : Fin 32) (hu : used c a j) {s : DmaSem sig} (hs : s = xsem (a, j))
    {sv dv : Memref sig .tc .vmem S24x768 .f32} (hN : dv.view.dmaCredit = N) {h1 : sv.view.WordExact} {h2 : dv.view.WordExact}
    (n : ℕ) (hn : klv (some (a, j)) ≤ n) (O : CellTallies nD τ sig Unit) (hO : Above n O) (Q : PUnit → sProp 𝕄) :
    iprop((records A B K ∗ levAts L lv) ∗ owesX c O ∗ (cred (tallyAt (xG c a j) () N) ∗ atPos ER (xG c a j) 0 ∅ 0))
      ⊢ iprop(((owesX c O ∗ (atPos ER (xG c a j) 1 ∅ 0 ∗ arrPay A B c a j)) -∗ Q ⟨⟩) -∗ WP c (Prog.lift (.waitDma2 s sv dv h1 h2)) Q) := by
  subst hs
  unfold WP owesX
  iintro ⟨⟨#HR, #HL⟩, ⟨%W, HO⟩, HC, HA⟩ HQ
  iapply (Rounds.wp_wait_rest_token 𝒱₀ ER (Rd A B) (c : Thread nD τ) none (κ := K (c, some (a, j)))
      (wpE_waitDma2_eq 𝒱₀ (c : Thread nD τ) none Set.univ) (Set.mem_univ _) () (O := O) (W := W) (R := 0) (m := 0) (T := ∅)
      (by rw [hN, Nat.zero_add]; exact (expect_x A B c a j hu).symm)) $$ [HC HO HA]
  · isplitr; · iapply (inv_at A B K (c, some (a, j))); iexact HR
    isplitl [HC]; · rw [hN]; iexact HC
    isplitl [HO]; · iexact HO
    isplitr; · iapply (mayWait_at c (.dma (xsem (a, j))) n ((lv_k (c, some (a, j)) ()).le.trans hn) hO); iexact HL
    iexact HA
  iintro ⟨HO, HA, -, HP⟩
  rw [wp_ret]; imodintro
  iapply HQ
  isplitl [HO]; · iexists _; iexact HO
  isplitl [HA]; · iexact HA
  iapply (Entails.of_eq (rest_x A B c a j hu)); iexact HP

theorem wait_bar (c : Dev nD) (O : CellTallies nD τ sig Unit) (hO : Above 1 O) (Q : PUnit → sProp 𝕄) :
    iprop((records A B K ∗ levAts L lv) ∗ owesX c O ∗ (cred (tallyAt (barG c) () 32) ∗ atPos ER (barG c) 0 ∅ 0))
      ⊢ iprop(((owesX c O ∗ (atPos ER (barG c) 1 ∅ 0 ∗ bigSep Finset.univ fun d : Dev nD => barPay (F := F) c d)) -∗ Q ⟨⟩)
          -∗ WP c (semWaitWord barS 32#32) Q) := by
  unfold WP owesX semWaitWord
  iintro ⟨⟨#HR, #HL⟩, ⟨%W, HO⟩, HC, HA⟩ HQ
  iapply (Rounds.wp_wait_rest_token 𝒱₀ ER (Rd A B) (c : Thread nD τ) none (κ := K (c, none))
      (wpE_semWait_eq 𝒱₀ (c : Thread nD τ) none Set.univ) (Set.mem_univ _) () (O := O) (W := W) (R := 0) (m := 0) (T := ∅)
      (by rw [Nat.zero_add]; exact (show (32#32).toInt.toNat = 32 by decide).trans (expect_bar A B c).symm)) $$ [HC HO HA]
  · isplitr; · iapply (inv_at A B K (c, none)); iexact HR
    isplitl [HC]; · iexact HC
    isplitl [HO]; · iexact HO
    isplitr; · iapply (mayWait_at c (.reg barS) 1 ((lv_k (c, none) ()).le) hO); iexact HL
    iexact HA
  iintro ⟨HO, HA, -, HP⟩
  rw [wp_ret]; imodintro
  iapply HQ
  isplitl [HO]; · iexists _; iexact HO
  isplitl [HA]; · iexact HA
  iapply (Entails.of_eq (rest_bar A B c)); iexact HP

end Turns

end Cert.KernelIdeal.Hand

end
-- ==== Proof.Ideal.Parts.lean ====
/- The parts of the kernel between its loops: the product, the device's own chunk, the sum. -/
module

public import proofs.«01_k».proof.Proof.Ideal.Steps

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

section Parts
variable (A : Dev nD → FVec F S768x384 .f32) (B : Dev nD → FVec F S384x768 .f32)

def aPts (c : Dev nD) (f : FVec F S768x384 .f32) : sProp 𝕄 := ((c : Thread nD τ).loc cc0_stg0_0) ↦{fullShare} f
def bPts (c : Dev nD) (f : FVec F S384x768 .f32) : sProp 𝕄 := ((c : Thread nD τ).loc cc0_stg1_0) ↦{fullShare} f
def outAll (c : Dev nD) (f : FVec F S768x768 .f32) : sProp 𝕄 := ((c : Thread nD τ).loc cc0_stg2_0) ↦{fullShare} f
def accAll (c : Dev nD) (f : FVec F S768x768 .f32) : sProp 𝕄 := ((c : Thread nD τ).loc cc0_scratch0) ↦{fullShare} f
def redAll (c : Dev nD) (f : FVec F S24x768 .f32) : sProp 𝕄 := ((c : Thread nD τ).loc cc0_scratch1) ↦{fullShare} f
def rsAll (c : Dev nD) (f : FVec F S32x24x768 .f32) : sProp 𝕄 := ((c : Thread nD τ).loc cc0_scratch2) ↦{fullShare} f

theorem hz2 : (![0, 0] : Fin 2 → Nat) = fun _ => 0 := funext fun a => by fin_cases a <;> rfl
theorem hz3 : (![0, 0, 0] : Fin 3 → Nat) = fun _ => 0 := funext fun a => by fin_cases a <;> rfl

theorem read_a (f : FVec F S768x384 .f32) : (aM : Memref sig .tc .vmem S768x384 .f32).view.readAt (Elt F)
    (Rect.unit (s := S768x384) ![0, 0] S768x384.size inb_S768x384_S768x384_0_0).toLoadRect f = f := Memref.readAt_unit_zero (Elt F) cc0_stg0_0 hz2 _ f
theorem read_b (f : FVec F S384x768 .f32) : (bM : Memref sig .tc .vmem S384x768 .f32).view.readAt (Elt F)
    (Rect.unit (s := S384x768) ![0, 0] S384x768.size inb_S384x768_S384x768_0_0).toLoadRect f = f := Memref.readAt_unit_zero (Elt F) cc0_stg1_0 hz2 _ f
theorem read_red (f : FVec F S24x768 .f32) : (redM : Memref sig .tc .vmem S24x768 .f32).view.readAt (Elt F)
    (Rect.unit (s := S24x768) ![0, 0] S24x768.size inb_S24x768_S24x768_0_0).toLoadRect f = f := Memref.readAt_unit_zero (Elt F) cc0_scratch1 hz2 _ f
theorem read_rs (f : FVec F S32x24x768 .f32) : (rsM : Memref sig .tc .vmem S32x24x768 .f32).view.readAt (Elt F)
    (Rect.unit (s := S32x24x768) ![0, 0, 0] S32x24x768.size inb_S32x24x768_S32x24x768_0_0_0).toLoadRect f = f := Memref.readAt_unit_zero (Elt F) cc0_scratch2 hz3 _ f
theorem write_acc (f w : FVec F S768x768 .f32) : ((accM : Memref sig .tc .vmem S768x768 .f32).access
    (Rect.unit (s := S768x768) ![0, 0] S768x768.size inb_S768x768_S768x768_0_0)).write (Elt F) f w Finset.univ = w :=
  Memref.write_access_unit_zero_univ (Elt F) cc0_scratch0 hz2 _ f w
theorem write_red (f w : FVec F S24x768 .f32) : ((redM : Memref sig .tc .vmem S24x768 .f32).access
    (Rect.unit (s := S24x768) ![0, 0] S24x768.size inb_S24x768_S24x768_0_0)).write (Elt F) f w Finset.univ = w :=
  Memref.write_access_unit_zero_univ (Elt F) cc0_scratch1 hz2 _ f w

/-- The product of the device's blocks, stored whole. -/
theorem mul_at (c : Dev nD) (Q : PUnit → sProp 𝕄) :
    iprop(aPts c (A c) ∗ bPts c (B c) ∗ ∃ f, accAll c f)
      ⊢ iprop(((aPts c (A c) ∗ bPts c (B c) ∗ accAll c (part A B c)) -∗ Q ⟨⟩) -∗ WP c (mulPart aM bM accM) Q) := by
  unfold WP mulPart aPts bPts accAll
  simp only [Prog.lift, Prog.bind_op, Prog.bind_ret]
  iintro ⟨Ha, Hb, ⟨%f, Hc⟩⟩ HQ
  iapply (wp_load 𝒱₀ (c : Thread nD τ) none Set.univ (m := aM) (Finset.subset_univ _)) $$ Ha; iintro Ha
  rw [read_a]
  iapply (wp_load 𝒱₀ (c : Thread nD τ) none Set.univ (m := bM) (Finset.subset_univ _)) $$ Hb; iintro Hb
  rw [read_b]
  iapply (wp_load 𝒱₀ (c : Thread nD τ) none Set.univ (m := accM) (Finset.subset_univ _)) $$ Hc; iintro Hc
  iapply (wp_store 𝒱₀ (c : Thread nD τ) none Set.univ (m := accM) (r := Rect.unit (s := S768x768) ![0, 0] S768x768.size inb_S768x768_S768x768_0_0) (Mk := Finset.univ) (Finset.subset_univ _)) $$ Hc; iintro Hc
  rw [write_acc, wp_ret]; imodintro
  iapply HQ
  isplitl [Ha]; · iexact Ha
  isplitl [Hb]; · iexact Hb
  iexact Hc

/-- The own chunk's copy, at any spelling of where it lies. -/
def ownProg (o4 : Fin 2 → ℕ) (h4 : ∀ a, o4 a + S24x768.size a ≤ S768x768.size a) (o5 : Fin 3 → ℕ)
    (h5 : ∀ a, o5 a + S1x24x768.size a ≤ S32x24x768.size a) : Prog (TpuEff nD τ sig (Elt F) Λ₀ .tc) PUnit := do
  let v450 : Vec F S24x768 .f32 ← Prog.lift (.load accM (Rect.unit (s := S768x768) o4 S24x768.size h4).toLoadRect (View.loadsAt_vmem h_S24x768))
  let v452 : Vec F S1x24x768 .f32 ← Prog.lift (.load rsM (Rect.unit (s := S32x24x768) o5 S1x24x768.size h5).toLoadRect (View.loadsAt_vmem h_S1x24x768))
  Prog.lift (.store rsM (Rect.unit (s := S32x24x768) o5 S1x24x768.size h5) (k0_pay3 v450) Finset.univ (View.stores_vmem_bits_univ h_S1x24x768 rfl) (.inl rfl))

theorem ownProg_eq (c : Dev nD) : ownPart (F := F) accM rsM c = ownProg ![24 * c.val, 0] (rows_inb c) ![c.val, 0, 0] (slot_inb c) := by
  have h : ∀ (o4 : Fin 2 → ℕ) (h4 : _) (o5 : Fin 3 → ℕ) (h5 : _), o4 = ![24 * c.val, 0] → o5 = ![c.val, 0, 0] →
      ownProg (F := F) o4 h4 o5 h5 = ownProg ![24 * c.val, 0] (rows_inb c) ![c.val, 0, 0] (slot_inb c) := by
    intro o4 h4 o5 h5 e4 e5; subst e4 e5; rfl
  exact h (k0_off4 c) (k0_off4_inb c) (k0_off5 c) (k0_off5_inb c) (k0_off4_eq c) (k0_off5_eq c)

theorem own_at (c : Dev nD) (Q : PUnit → sProp 𝕄) :
    iprop(accPts c c (part A B c) ∗ ∃ f, slotPts c c f)
      ⊢ iprop(((accPts c c (part A B c) ∗ slotPts c c (rsFull A B c)) -∗ Q ⟨⟩) -∗ WP c (ownPart accM rsM c) Q) := by
  rw [ownProg_eq]
  unfold WP ownProg
  simp only [Prog.lift, Prog.bind_op, Prog.bind_ret]
  iintro ⟨Ha, ⟨%f, Hs⟩⟩ HQ
  unfold accPts slotPts
  iapply (wp_load_rect 𝒱₀ (c : Thread nD τ) none Set.univ (m := accM) (r := rowsRect c) (S := rowsSet c) (show _ = _ from View.set_slice_whole _ _).subset) $$ Ha; iintro Ha
  iapply (wp_load_rect 𝒱₀ (c : Thread nD τ) none Set.univ (m := rsM) (r := slotRect c) (S := slotSet c) (show _ = _ from View.set_slice_whole _ _).subset) $$ Hs; iintro Hs
  iapply (wp_store 𝒱₀ (c : Thread nD τ) none Set.univ (m := rsM) (r := slotRect c) (Mk := Finset.univ) (S := slotSet c) (show _ = _ from View.set_slice_whole _ _).subset) $$ Hs; iintro Hs
  rw [wp_ret]; imodintro
  iapply HQ
  isplitl [Ha]; · iexact Ha
  iapply (Entails.of_eq (pointsTo_congr (own_slot A B c f))); iexact Hs

/-- The sum and its store, at any spelling of where the own rows lie. -/
def sumProg (o4 : Fin 2 → ℕ) (h4 : ∀ a, o4 a + S24x768.size a ≤ S768x768.size a) : Prog (TpuEff nD τ sig (Elt F) Λ₀ .tc) PUnit := do
  let v734 : Vec F S32x24x768 .f32 ← Prog.lift (.load rsM (Rect.unit (s := S32x24x768) ![0, 0, 0] S32x24x768.size inb_S32x24x768_S32x24x768_0_0_0).toLoadRect (View.loadsAt_vmem h_S32x24x768))
  let v736 : Vec F S24x768 .f32 ← Prog.lift (.load redM (Rect.unit (s := S24x768) ![0, 0] S24x768.size inb_S24x768_S24x768_0_0).toLoadRect (View.loadsAt_vmem h_S24x768))
  Prog.lift (.store redM (Rect.unit (s := S24x768) ![0, 0] S24x768.size inb_S24x768_S24x768_0_0) (k0_pay4 v734) Finset.univ (View.stores_vmem_bits_univ h_S24x768 rfl) (.inl rfl))
  let v739 : Vec F S24x768 .f32 ← Prog.lift (.load redM (Rect.unit (s := S24x768) ![0, 0] S24x768.size inb_S24x768_S24x768_0_0).toLoadRect (View.loadsAt_vmem h_S24x768))
  let v742 : Vec F S24x768 .f32 ← Prog.lift (.load oM (Rect.unit (s := S768x768) o4 S24x768.size h4).toLoadRect (View.loadsAt_vmem h_S24x768))
  Prog.lift (.store oM (Rect.unit (s := S768x768) o4 S24x768.size h4) v739 Finset.univ (View.stores_vmem_bits_univ h_S24x768 rfl) (.inl rfl))

theorem sumProg_eq (c : Dev nD) : sumPart (F := F) oM redM rsM c = sumProg ![24 * c.val, 0] (rows_inb c) := by
  have h : ∀ (o4 : Fin 2 → ℕ) (h4 : _), o4 = ![24 * c.val, 0] → sumProg (F := F) o4 h4 = sumProg ![24 * c.val, 0] (rows_inb c) := by
    intro o4 h4 e4; subst e4; rfl
  exact h (k0_off4 c) (k0_off4_inb c) (k0_off4_eq c)

theorem sum_at (c : Dev nD) (Q : PUnit → sProp 𝕄) :
    iprop(rsAll c (rsFull A B c) ∗ (∃ f, redAll c f) ∗ ∃ f, outPts c c f)
      ⊢ iprop(((rsAll c (rsFull A B c) ∗ redAll c (red A B c) ∗ outPts c c (outFull A B)) -∗ Q ⟨⟩) -∗ WP c (sumPart oM redM rsM c) Q) := by
  rw [sumProg_eq]
  unfold WP sumProg
  simp only [Prog.lift, Prog.bind_op, Prog.bind_ret]
  iintro ⟨Hs, ⟨%f, Hr⟩, ⟨%g, Ho⟩⟩ HQ
  unfold rsAll redAll outPts
  iapply (wp_load 𝒱₀ (c : Thread nD τ) none Set.univ (m := rsM) (Finset.subset_univ _)) $$ Hs; iintro Hs
  rw [read_rs]
  iapply (wp_load 𝒱₀ (c : Thread nD τ) none Set.univ (m := redM) (Finset.subset_univ _)) $$ Hr; iintro Hr
  iapply (wp_store 𝒱₀ (c : Thread nD τ) none Set.univ (m := redM) (r := Rect.unit (s := S24x768) ![0, 0] S24x768.size inb_S24x768_S24x768_0_0) (Mk := Finset.univ) (Finset.subset_univ _)) $$ Hr; iintro Hr
  rw [write_red]
  iapply (wp_load 𝒱₀ (c : Thread nD τ) none Set.univ (m := redM) (Finset.subset_univ _)) $$ Hr; iintro Hr
  rw [read_red]
  iapply (wp_load_rect 𝒱₀ (c : Thread nD τ) none Set.univ (m := oM) (r := rowsRect c) (S := rowsSet c) (show _ = _ from View.set_slice_whole _ _).subset) $$ Ho; iintro Ho
  iapply (wp_store 𝒱₀ (c : Thread nD τ) none Set.univ (m := oM) (r := rowsRect c) (Mk := Finset.univ) (S := rowsSet c) (show _ = _ from View.set_slice_whole _ _).subset) $$ Ho; iintro Ho
  rw [wp_ret]; imodintro
  iapply HQ
  isplitl [Hs]; · iexact Hs
  isplitl [Hr]; · iexact Hr
  iapply (Entails.of_eq (pointsTo_congr (own_rows A B c g))); iexact Ho

end Parts

end Cert.KernelIdeal.Hand

end
-- ==== Proof.Ideal.Run.lean ====
/- The kernel run on one device, loop after loop. -/
module

public import proofs.«01_k».proof.Proof.Ideal.Parts
public import Idealize.ShloMosaic.Lib.Rounds.Family

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

/-! ## Conjunctions over devices and cells, taken apart -/

/-- A conjunction over 32 is that at one of them and that over the other 31, however these are numbered. -/
theorem split31 (e : Fin 31 → Fin 32) (x : Fin 32) (hinj : Function.Injective e) (hx : ∀ k, e k ≠ x) (Φ : Fin 32 → sProp 𝕄) :
    bigSep Finset.univ Φ = iprop(Φ x ∗ bigSep Finset.univ fun k => Φ (e k)) := by
  have hn : x ∉ Finset.univ.map ⟨e, hinj⟩ := by
    intro h
    obtain ⟨k, -, hk⟩ := Finset.mem_map.mp h
    exact hx k hk
  have hu : (Finset.univ : Finset (Fin 32)) = insert x (Finset.univ.map ⟨e, hinj⟩) := by
    symm
    apply Finset.eq_univ_of_card
    rw [Finset.card_insert_of_notMem hn, Finset.card_map, Finset.card_univ, Fintype.card_fin, Fintype.card_fin]
  rw [hu, bigSep_insert hn, bigSep_map]; rfl

abbrev lastF : Fin 32 := ⟨31, by decide⟩
theorem up_inj : Function.Injective up := fun a b h => Fin.ext (show a.val = b.val from congrArg (fun x : Fin 32 => x.val) h)
theorem up_ne (k : Fin 31) : up k ≠ lastF := fun h => by
  have h1 : k.val = 31 := congrArg (fun x : Fin 32 => x.val) h
  have := k.isLt; omega

theorem split_dst (c : Dev nD) (Φ : Dev nD → sProp 𝕄) : bigSep Finset.univ Φ = iprop(Φ c ∗ bigSep Finset.univ fun k => Φ (dst c k)) :=
  split31 (dst c) c (dst_inj c) (dst_ne c) Φ
theorem split_src (c : Dev nD) (Φ : Dev nD → sProp 𝕄) : bigSep Finset.univ Φ = iprop(Φ c ∗ bigSep Finset.univ fun k => Φ (src c k)) :=
  split31 (src c) c (src_inj c) (src_ne c) Φ
theorem split_up (Φ : Fin 32 → sProp 𝕄) : bigSep Finset.univ Φ = iprop(Φ lastF ∗ bigSep Finset.univ fun k => Φ (up k)) :=
  split31 up lastF up_inj up_ne Φ

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_kix (Φ : KIx → sProp 𝕄) :
    bigSep Finset.univ Φ = iprop(Φ none ∗ bigSep Finset.univ fun ak : Fin 4 × Fin 32 => Φ (some ak)) := by
  have hn : (none : KIx) ∉ Finset.univ.map (⟨some, Option.some_injective _⟩ : Fin 4 × Fin 32 ↪ KIx) := by
    intro h
    obtain ⟨k, -, hk⟩ := Finset.mem_map.mp h
    exact absurd hk (by exact fun h => Option.some_ne_none _ h)
  have hu : (Finset.univ : Finset KIx) = insert none (Finset.univ.map (⟨some, Option.some_injective _⟩ : Fin 4 × Fin 32 ↪ KIx)) := by
    ext k
    rcases k with _ | k
    · simp
    · simp
  rw [hu, bigSep_insert hn, bigSep_map]; rfl

/-- A conjunction over a device's cells: the barrier's; each sending array's unused last cell and its 31 turns' cells;
    each receiving array's unused own cell and its 31 turns' cells. -/
theorem kix_split (c : Dev nD) (Φ : KIx → sProp 𝕄) : bigSep Finset.univ Φ = iprop(Φ none
    ∗ (Φ (some (0, lastF)) ∗ bigSep Finset.univ fun k : Fin 31 => Φ (some (0, up k)))
    ∗ (Φ (some (1, c)) ∗ bigSep Finset.univ fun k : Fin 31 => Φ (some (1, src c k)))
    ∗ (Φ (some (2, lastF)) ∗ bigSep Finset.univ fun k : Fin 31 => Φ (some (2, up k)))
    ∗ (Φ (some (3, c)) ∗ bigSep Finset.univ fun k : Fin 31 => Φ (some (3, src c k)))) := by
  rw [bigSep_kix, bigSep_univ_prod, bigSep_fin4, split_up (fun j => Φ (some (0, j))), split_src c (fun j => Φ (some (1, j))),
    split_up (fun j => Φ (some (2, j))), split_src c (fun j => Φ (some (3, j)))]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## Buffers, whole and in parts -/

theorem rows_mem (i : S768x768.Idx) : ∃ j : Fin 32, i ∈ rowsSet j := by
  have h : i ∈ Finset.univ.biUnion rowsSet := by rw [rows_cover]; exact Finset.mem_univ i
  obtain ⟨j, -, hj⟩ := Finset.mem_biUnion.mp h
  exact ⟨j, hj⟩
theorem slot_mem (i : S32x24x768.Idx) : ∃ j : Fin 32, i ∈ slotSet j := by
  have h : i ∈ Finset.univ.biUnion slotSet := by rw [slot_cover]; exact Finset.mem_univ i
  obtain ⟨j, -, hj⟩ := Finset.mem_biUnion.mp h
  exact ⟨j, hj⟩

/-- A buffer of 768 by 768, held whole, is its 32 devices' rows. -/
theorem blocks_rows (c : Dev nD) (b : Ref sig .tc) (I : Fin 32 → Finset (Idx ((c : Thread nD τ).loc b))) (hd : ∀ j j', j ≠ j' → Disjoint (I j) (I j'))
    (hm : ∀ i, ∃ j, i ∈ I j) (f : Buf (Elt F) ((c : Thread nD τ).loc b)) :
    (((c : Thread nD τ).loc b) ↦{fullShare} f : sProp 𝕄) = bigSep Finset.univ fun j : Fin 32 => ((c : Thread nD τ).loc b) ↦[I j]{fullShare} f :=
  Ring.pointsTo_blocks I hd (Finset.eq_univ_of_forall fun i => by
    obtain ⟨j, hj⟩ := hm i
    exact Finset.mem_biUnion.mpr ⟨j, Finset.mem_univ _, hj⟩) f

theorem acc_split (c : Dev nD) (f : FVec F S768x768 .f32) : accAll c f = bigSep Finset.univ fun j : Dev nD => accPts c j f := by
  unfold accAll accPts; exact blocks_rows c cc0_scratch0 rowsSet rows_disjoint rows_mem f
theorem rs_split (c : Dev nD) (f : FVec F S32x24x768 .f32) : rsAll c f = bigSep Finset.univ fun j : Dev nD => slotPts c j f := by
  unfold rsAll slotPts; exact blocks_rows c cc0_scratch2 slotSet slot_disjoint slot_mem f
theorem out_split (c : Dev nD) (f : FVec F S768x768 .f32) : outAll c f = bigSep Finset.univ fun j : Dev nD => outPts c j f := by
  unfold outAll outPts; exact blocks_rows c cc0_stg2_0 rowsSet rows_disjoint rows_mem f
theorem red_split (c : Dev nD) (f : FVec F S24x768 .f32) :
    redAll c f ⊢ iprop(redPts c (shareDrop fullShare 31) f ∗ bigSep Finset.univ fun k : Fin 31 => redPts c (shareTok fullShare 31 k) f) := by
  unfold redAll redPts; exact Transfers.pointsTo_toks_split fullShare 31
theorem red_join (c : Dev nD) (f : FVec F S24x768 .f32) :
    iprop(redPts c (shareDrop fullShare 31) f ∗ bigSep Finset.univ fun k : Fin 31 => redPts c (shareTok fullShare 31 k) f) ⊢ redAll c f := by
  unfold redAll redPts; exact Transfers.pointsTo_toks_join fullShare 31

theorem some_outPts (c : Dev nD) (f : FVec F S768x768 .f32) :
    (bigSep Finset.univ fun p : Dev nD => outPts c p f) ⊢ (bigSep Finset.univ fun p : Dev nD => iprop(∃ f, outPts (F := F) c p f) : sProp 𝕄) :=
  bigSep_mono fun p _ => show outPts c p f ⊢ (iprop(∃ f, outPts (F := F) c p f) : sProp 𝕄) by iintro H; iexists f; iexact H
theorem some_slotPts (c : Dev nD) (f : FVec F S32x24x768 .f32) :
    (bigSep Finset.univ fun p : Dev nD => slotPts c p f) ⊢ (bigSep Finset.univ fun p : Dev nD => iprop(∃ f, slotPts (F := F) c p f) : sProp 𝕄) :=
  bigSep_mono fun p _ => show slotPts c p f ⊢ (iprop(∃ f, slotPts (F := F) c p f) : sProp 𝕄) by iintro H; iexists f; iexact H

section Run
variable (A : Dev nD → FVec F S768x384 .f32) (B : Dev nD → FVec F S384x768 .f32) (K : Dev nD × KIx → ℕ) (c : Dev nD)

/-! ## The loops -/

theorem loop_sig (Q : PUnit → sProp 𝕄) :
    iprop(records A B K ∗ owesX c (O₀ c) ∗ bigSep Finset.univ fun p : Dev nD => iprop(dutyTok ER (barG p) 0 c ∗ barPay (F := F) p c))
      ⊢ iprop((owesX c (OX 1 c 0 + OX 3 c 0) -∗ Q ⟨⟩) -∗ WP c (turns 32 sigStep) Q) := by
  have h := wp_turns c (records A B K) 32 sigStep (fun i => owesX c (OB i + (OX 1 c 0 + OX 3 c 0)))
    (fun p => iprop(dutyTok ER (barG p) 0 c ∗ barPay (F := F) p c)) (fun _ => iprop(emp)) (fun p Q => by
      have e : OB p.val + (OX 1 c 0 + OX 3 c 0) = (OB (p.val + 1) + (OX 1 c 0 + OX 3 c 0)) + tallyAt (barG p) () 1 := by
        rw [OB_step p]; exact add_right_comm _ _ _
      show iprop(records A B K ∗ owesX c (OB p.val + (OX 1 c 0 + OX 3 c 0)) ∗ _) ⊢ _
      rw [e]
      iintro H HQ
      iapply (sig_at A B K c _ p (sigW_dev p) _ Q) $$ H
      iintro HO
      iapply HQ
      isplitl; · iexact HO
      iempintro) Q
  iintro ⟨#HR, HO, HX⟩ HQ
  iapply h $$ [HO HX]
  · isplitr; · iexact HR
    isplitl [HO]; · iexact HO
    iexact HX
  iintro ⟨HO, -⟩
  iapply HQ
  rw [OB_done, zero_add]
  iexact HO

/-- What a turn that sends a chunk starts from. -/
def rsIn (k : Fin 31) : sProp 𝕄 :=
  iprop(accPts c (dst c k) (part A B c) ∗ (∃ f, slotPts (dst c k) c f) ∗ dutyTok ER (xG c 0 (up k)) 0 0 ∗ dutyTok ER (xG (dst c k) 1 c) 0 0)
/-- What a turn that sends finished rows starts from. -/
def agIn (k : Fin 31) : sProp 𝕄 :=
  iprop(redPts c (shareTok fullShare 31 k) (red A B c) ∗ (∃ f, outPts (dst c k) c f) ∗ dutyTok ER (xG c 2 (up k)) 0 0 ∗ dutyTok ER (xG (dst c k) 3 c) 0 0)

theorem loop_rs (Q : PUnit → sProp 𝕄) :
    iprop(records A B K ∗ owesX c (OX 1 c 0 + OX 3 c 0) ∗ bigSep Finset.univ (rsIn A B c))
      ⊢ iprop(((owesX c (OX 3 c 0) ∗ bigSep Finset.univ fun k : Fin 31 => cred (tallyAt (xG c 0 (up k)) () N)) -∗ Q ⟨⟩)
          -∗ WP c (turns 31 (rsStep accM rsM cc0_scratch3 cc0_scratch4 c)) Q) := by
  have h := wp_turns c (records A B K) 31 (rsStep accM rsM cc0_scratch3 cc0_scratch4 c) (fun i => owesX c (OX 1 c i + OX 3 c 0))
    (rsIn A B c) (fun k => cred (tallyAt (xG c 0 (up k)) () N)) (fun k Q => by
      have e : OX 1 c k.val + OX 3 c 0 = (OX 1 c (k.val + 1) + OX 3 c 0) + tallyAt (xG (dst c k) 1 c) () N := by
        rw [OX_step 1 c k]; exact add_right_comm _ _ _
      show iprop(records A B K ∗ owesX c (OX 1 c k.val + OX 3 c 0) ∗ _) ⊢ _
      rw [e]
      unfold rsIn
      exact send_rs_at A B K c _ k (devW_dst c k) (rowsTo_eq accM c k) (slotMe_eq rsM c) (semAt_0 k) (semMe_1 c) _ Q) Q
  rw [OX_done, zero_add] at h
  exact h

theorem loop_ag (Q : PUnit → sProp 𝕄) :
    iprop(records A B K ∗ owesX c (OX 3 c 0) ∗ bigSep Finset.univ (agIn A B c))
      ⊢ iprop(((owesX c 0 ∗ bigSep Finset.univ fun k : Fin 31 => cred (tallyAt (xG c 2 (up k)) () N)) -∗ Q ⟨⟩)
          -∗ WP c (turns 31 (agStep oM redM (Memref.isWhole_whole _) cc0_scratch5 cc0_scratch6 c)) Q) := by
  have h := wp_turns c (records A B K) 31 (agStep oM redM (Memref.isWhole_whole _) cc0_scratch5 cc0_scratch6 c) (fun i => owesX c (OX 3 c i))
    (agIn A B c) (fun k => cred (tallyAt (xG c 2 (up k)) () N)) (fun k Q => by
      show iprop(records A B K ∗ owesX c (OX 3 c k.val) ∗ _) ⊢ _
      rw [OX_step 3 c k]
      unfold agIn
      exact send_ag_at A B K c _ k (devW_dst c k) (rowsMe_eq oM c) (semAt_2 k) (semMe_3 c) _ Q) Q
  rw [OX_done] at h
  exact h

/-- A loop of waits: turn `k` waits at cell `j k` of array `a` for what it hands over. -/
theorem loop_wait (a : Fin 4) (j : Fin 31 → Fin 32) (hu : ∀ k, used c a (j k)) (f : Fin 31 → Prog (TpuEff nD τ sig (Elt F) Λ₀ .tc) PUnit)
    (n : ℕ) (hn : ∀ k, klv (some (a, j k)) ≤ n) (O : CellTallies nD τ sig Unit) (hO : Above n O)
    (hf : ∀ k, ∃ (s : DmaSem sig) (sv dv : Memref sig .tc .vmem S24x768 .f32) (h1 : sv.view.WordExact) (h2 : dv.view.WordExact),
      f k = Prog.lift (.waitDma2 s sv dv h1 h2) ∧ s = xsem (a, j k) ∧ dv.view.dmaCredit = N)
    (Q : PUnit → sProp 𝕄) :
    iprop((records A B K ∗ levAts L lv) ∗ owesX c O ∗ (bigSep Finset.univ fun k => cred (tallyAt (xG c a (j k)) () N))
        ∗ bigSep Finset.univ fun k => atPos ER (xG c a (j k)) 0 ∅ 0)
      ⊢ iprop(((owesX c O ∗ (bigSep Finset.univ fun k => atPos ER (xG c a (j k)) 1 ∅ 0) ∗ bigSep Finset.univ fun k => arrPay A B c a (j k)) -∗ Q ⟨⟩)
          -∗ WP c (turns 31 f) Q) := by
  have h := wp_turns c (iprop(records A B K ∗ levAts L lv)) 31 f (fun _ => owesX c O)
    (fun k => iprop(cred (tallyAt (xG c a (j k)) () N) ∗ atPos ER (xG c a (j k)) 0 ∅ 0))
    (fun k => iprop(atPos ER (xG c a (j k)) 1 ∅ 0 ∗ arrPay A B c a (j k))) (fun k Q => by
      obtain ⟨s, sv, dv, h1, h2, e, hs, hN⟩ := hf k
      rw [e]
      exact wait_at A B K c a (j k) (hu k) hs hN n (hn k) O hO Q) Q
  rw [bigSep_sep', bigSep_sep'] at h
  exact h

/-- The wait loops of the kernel: for the chunks, for the chunks sent, for the finished rows, for the finished rows sent. -/
theorem loop_rsRecv (Q : PUnit → sProp 𝕄) :
    iprop((records A B K ∗ levAts L lv) ∗ owesX c (OX 3 c 0) ∗ (bigSep Finset.univ fun k => cred (tallyAt (xG c 1 (src c k)) () N))
        ∗ bigSep Finset.univ fun k => atPos ER (xG c 1 (src c k)) 0 ∅ 0)
      ⊢ iprop(((owesX c (OX 3 c 0) ∗ (bigSep Finset.univ fun k => atPos ER (xG c 1 (src c k)) 1 ∅ 0) ∗ bigSep Finset.univ fun k => slotPts c (src c k) (rsFull A B c)) -∗ Q ⟨⟩)
          -∗ WP c (turns 31 (rsRecvStep redM (Memref.isWhole_whole _) rsM cc0_scratch4 c)) Q) := by
  have h := loop_wait A B K c 1 (src c) (fun k => used_recv1 c _ (src_ne c k)) (rsRecvStep redM (Memref.isWhole_whole _) rsM cc0_scratch4 c) 2 (fun k => le_refl 2)
    (OX 3 c 0) (above_OX3 c 0 (by decide)) (fun k => ⟨_, _, _, _, _, rfl, semFrom_1 c k, rfl⟩) Q
  rw [bigSep_congr (s := Finset.univ) fun (k : Fin 31) _ => pay_1 A B c (src c k)] at h
  exact h
theorem loop_rsSent (Q : PUnit → sProp 𝕄) :
    iprop((records A B K ∗ levAts L lv) ∗ owesX c 0 ∗ (bigSep Finset.univ fun k => cred (tallyAt (xG c 0 (up k)) () N))
        ∗ bigSep Finset.univ fun k => atPos ER (xG c 0 (up k)) 0 ∅ 0)
      ⊢ iprop(((owesX c 0 ∗ (bigSep Finset.univ fun k => atPos ER (xG c 0 (up k)) 1 ∅ 0) ∗ bigSep Finset.univ fun k => accPts c (dst c k) (part A B c)) -∗ Q ⟨⟩)
          -∗ WP c (turns 31 (rsSentStep accM rsM cc0_scratch3 c)) Q) := by
  have h := loop_wait A B K c 0 up (used_send0 c) (rsSentStep accM rsM cc0_scratch3 c) 0 (fun k => le_refl 0)
    0 (Above.zero 0) (fun k => ⟨_, _, _, _, _, rfl, semAt_0 k, rfl⟩) Q
  rw [bigSep_congr (s := Finset.univ) fun (k : Fin 31) _ => pay_0 A B c k] at h
  exact h
theorem loop_agRecv (Q : PUnit → sProp 𝕄) :
    iprop((records A B K ∗ levAts L lv) ∗ owesX c 0 ∗ (bigSep Finset.univ fun k => cred (tallyAt (xG c 3 (src c k)) () N))
        ∗ bigSep Finset.univ fun k => atPos ER (xG c 3 (src c k)) 0 ∅ 0)
      ⊢ iprop(((owesX c 0 ∗ (bigSep Finset.univ fun k => atPos ER (xG c 3 (src c k)) 1 ∅ 0) ∗ bigSep Finset.univ fun k => outPts c (src c k) (outFull A B)) -∗ Q ⟨⟩)
          -∗ WP c (turns 31 (agRecvStep oM redM (Memref.isWhole_whole _) cc0_scratch6 c)) Q) := by
  have h := loop_wait A B K c 3 (src c) (fun k => used_recv3 c _ (src_ne c k)) (agRecvStep oM redM (Memref.isWhole_whole _) cc0_scratch6 c) 3 (fun k => le_refl 3)
    0 (Above.zero 3) (fun k => ⟨_, _, _, _, _, rfl, semFrom_3 c k, rfl⟩) Q
  rw [bigSep_congr (s := Finset.univ) fun (k : Fin 31) _ => pay_3 A B c (src c k)] at h
  exact h
theorem loop_agSent (Q : PUnit → sProp 𝕄) :
    iprop((records A B K ∗ levAts L lv) ∗ owesX c 0 ∗ (bigSep Finset.univ fun k => cred (tallyAt (xG c 2 (up k)) () N))
        ∗ bigSep Finset.univ fun k => atPos ER (xG c 2 (up k)) 0 ∅ 0)
      ⊢ iprop(((owesX c 0 ∗ (bigSep Finset.univ fun k => atPos ER (xG c 2 (up k)) 1 ∅ 0) ∗ bigSep Finset.univ fun k => redPts c (shareTok fullShare 31 k) (red A B c)) -∗ Q ⟨⟩)
          -∗ WP c (turns 31 (agSentStep oM redM (Memref.isWhole_whole _) cc0_scratch5 c)) Q) := by
  have h := loop_wait A B K c 2 up (used_send2 c) (agSentStep oM redM (Memref.isWhole_whole _) cc0_scratch5 c) 0 (fun k => le_refl 0)
    0 (Above.zero 0) (fun k => ⟨_, _, _, _, _, rfl, semAt_2 k, rfl⟩) Q
  rw [bigSep_congr (s := Finset.univ) fun (k : Fin 31) _ => pay_2 A B c k] at h
  exact h

/-! ## The whole run -/

/-- The duty tokens device `c` pays with. -/
def toks : sProp 𝕄 :=
  iprop((bigSep Finset.univ fun p : Dev nD => dutyTok ER (barG p) 0 c)
    ∗ (bigSep Finset.univ fun k : Fin 31 => dutyTok ER (xG c 0 (up k)) 0 0)
    ∗ (bigSep Finset.univ fun k : Fin 31 => dutyTok ER (xG (dst c k) 1 c) 0 0)
    ∗ (bigSep Finset.univ fun k : Fin 31 => dutyTok ER (xG c 2 (up k)) 0 0)
    ∗ (bigSep Finset.univ fun k : Fin 31 => dutyTok ER (xG (dst c k) 3 c) 0 0))
/-- Where device `c` stands at its cells at the start. -/
def pos0 : sProp 𝕄 := bigSep Finset.univ fun k : KIx => atPos ER (kcell (c, k)) 0 ∅ 0
/-- What device `c` is owed. -/
def creds : sProp 𝕄 :=
  iprop(cred (tallyAt (barG c) () 32) ∗ (bigSep Finset.univ fun k : Fin 31 => cred (tallyAt (xG c 1 (src c k)) () N))
    ∗ bigSep Finset.univ fun k : Fin 31 => cred (tallyAt (xG c 3 (src c k)) () N))

theorem lastR_send0 (k : Fin 31) : lastR c (some (0, up k)) = 1 := if_pos (used_send0 c k)
theorem lastR_send2 (k : Fin 31) : lastR c (some (2, up k)) = 1 := if_pos (used_send2 c k)
theorem lastR_recv1 (k : Fin 31) : lastR c (some (1, src c k)) = 1 := if_pos (used_recv1 c _ (src_ne c k))
theorem lastR_recv3 (k : Fin 31) : lastR c (some (3, src c k)) = 1 := if_pos (used_recv3 c _ (src_ne c k))
theorem lastR_last0 : lastR c (some (0, lastF)) = 0 := if_neg (t := 1) (show ¬ used c 0 lastF by unfold used; rw [if_pos (Or.inl rfl)]; decide)
theorem lastR_last2 : lastR c (some (2, lastF)) = 0 := if_neg (t := 1) (show ¬ used c 2 lastF by unfold used; rw [if_pos (Or.inr rfl)]; decide)
theorem lastR_own1 : lastR c (some (1, c)) = 0 := if_neg (show ¬ used c 1 c by unfold used; rw [if_neg (by decide)]; exact fun h => h rfl)
theorem lastR_own3 : lastR c (some (3, c)) = 0 := if_neg (show ¬ used c 3 c by unfold used; rw [if_neg (by decide)]; exact fun h => h rfl)

/-- What a run ends with may first be updated. -/
theorem wp_up (p : Prog (TpuEff nD τ sig (Elt F) Λ₀ .tc) PUnit) (Q : PUnit → sProp 𝕄) :
    WP c p (fun a => iprop(|={Set.univ}=> Q a)) ⊢ WP c p Q := wp_fupd _ _ _ p Q

/-- Where device `c` stands at its cells at the end. -/
theorem posEnd : (bigSep Finset.univ fun k : KIx => (atPos ER (kcell (c, k)) (lastR c k) ∅ 0 : sProp 𝕄)) = iprop(atPos ER (barG c) 1 ∅ 0
    ∗ (atPos ER (xG c 0 lastF) 0 ∅ 0 ∗ bigSep Finset.univ fun k : Fin 31 => atPos ER (xG c 0 (up k)) 1 ∅ 0)
    ∗ (atPos ER (xG c 1 c) 0 ∅ 0 ∗ bigSep Finset.univ fun k : Fin 31 => atPos ER (xG c 1 (src c k)) 1 ∅ 0)
    ∗ (atPos ER (xG c 2 lastF) 0 ∅ 0 ∗ bigSep Finset.univ fun k : Fin 31 => atPos ER (xG c 2 (up k)) 1 ∅ 0)
    ∗ (atPos ER (xG c 3 c) 0 ∅ 0 ∗ bigSep Finset.univ fun k : Fin 31 => atPos ER (xG c 3 (src c k)) 1 ∅ 0)) := by
  rw [kix_split c, lastR_last0, lastR_last2, lastR_own1, lastR_own3]
  simp only [lastR_send0, lastR_send2, lastR_recv1, lastR_recv3]
  rfl

/-- Every cell of the device closed: its counter is zero. -/
theorem close_all : iprop(records A B K ∗ bigSep Finset.univ fun k : KIx => atPos ER (kcell (c, k)) (lastR c k) ∅ 0)
    ⊢ (|={Set.univ}=> bigSep Finset.univ fun k : KIx => semVal (kcell (c, k)) 0 : sProp 𝕄) :=
  (bigSep_with_persistent (R := records A B K) (Ψ := fun k : KIx => iprop(cellInv ER (Rd A B) (K (c, k)) (kcell (c, k)) ∗ atPos ER (kcell (c, k)) (lastR c k) ∅ 0))
    (fun k _ => sep_mono_left (inv_at A B K (c, k)))).trans
    (Rounds.cells_close ER (Rd A B) Finset.univ (fun k : KIx => kcell (c, k)) (fun k => K (c, k)) (fun _ _ => Set.mem_univ _) (fun _ _ h => h) (lastR c)
      (fun k _ r hr => duties_lastR A B c k r hr))

set_option maxHeartbeats 800000 in
/-- The kernel on device `c`, from its buffers and its part of the protocol to its buffers holding what it computed. -/
theorem run_device (Q : PUnit → sProp 𝕄) :
    iprop((records A B K ∗ levAts L lv) ∗ owesX c (O₀ c) ∗ toks c ∗ pos0 c ∗ creds c
        ∗ aPts c (A c) ∗ bPts c (B c) ∗ (∃ f, outAll c f) ∗ (∃ f, accAll c f) ∗ (∃ f, redAll c f) ∗ (∃ f, rsAll c f))
      ⊢ iprop(((owesX c 0 ∗ (bigSep Finset.univ fun k : KIx => semVal (kcell (c, k)) 0)
          ∗ aPts c (A c) ∗ bPts c (B c) ∗ outAll c (outFull A B) ∗ accAll c (part A B c) ∗ redAll c (red A B c) ∗ rsAll c (rsFull A B c)) -∗ Q ⟨⟩)
        -∗ WP c (afterId aM bM oM accM redM (Memref.isWhole_whole _) rsM cc0_scratch3 cc0_scratch4 cc0_scratch5 cc0_scratch6 c) Q) := by
  unfold afterId toks creds pos0
  rw [kix_split c (fun k => (atPos ER (kcell (c, k)) 0 ∅ 0 : sProp 𝕄))]
  unfold WP
  simp only [wp_bind]
  iintro ⟨⟨#HR, #HL⟩, HO, ⟨Tb, T0, T1, T2, T3⟩, ⟨Pb, ⟨P0u, P0⟩, ⟨P1u, P1⟩, ⟨P2u, P2⟩, ⟨P3u, P3⟩⟩, ⟨Cb, C1, C3⟩, Ha, Hb, ⟨%fo, Hout⟩, Hacc, Hred, ⟨%fr, Hrs⟩⟩ HQ
  -- the signals hand out the slots and the rows
  ihave Hout := (Entails.of_eq (out_split c fo)) $$ Hout
  ihave Hrs := (Entails.of_eq (rs_split c fr)) $$ Hrs
  ihave Hout := (some_outPts c fo) $$ Hout
  ihave Hrs := (some_slotPts c fr) $$ Hrs
  iapply (loop_sig A B K c _) $$ [HO Tb Hout Hrs]
  · isplitr; · iexact HR
    isplitl [HO]; · iexact HO
    unfold barPay
    rw [bigSep_sep', bigSep_sep']
    isplitl [Tb]; · iexact Tb
    isplitl [Hrs]; · iexact Hrs
    iexact Hout
  iintro HO
  -- the barrier: every device's slot and rows for this one
  iapply (wait_bar A B K c _ ((above_OX1 c 0 (by decide)).add (above_OX3 c 0 (by decide))) _) $$ [HO Cb Pb]
  · isplitr
    · isplitr; · iexact HR
      iexact HL
    isplitl [HO]; · iexact HO
    isplitl [Cb]; · iexact Cb
    iexact Pb
  unfold barPay
  rw [bigSep_sep', split_dst c (fun d => iprop(∃ f, slotPts (F := F) d c f)), split_dst c (fun d => iprop(∃ f, outPts (F := F) d c f))]
  iintro ⟨HO, Pb, ⟨Sown, Ss⟩, ⟨Oown, Os⟩⟩
  -- the product
  iapply (mul_at A B c _) $$ [Ha Hb Hacc]
  · isplitl [Ha]; · iexact Ha
    isplitl [Hb]; · iexact Hb
    iexact Hacc
  rw [acc_split, split_dst c (fun j => accPts c j (part A B c))]
  iintro ⟨Ha, Hb, Aown, As⟩
  -- the chunks leave
  iapply (loop_rs A B K c _) $$ [HO As Ss T0 T1]
  · isplitr; · iexact HR
    isplitl [HO]; · iexact HO
    unfold rsIn
    rw [bigSep_sep', bigSep_sep', bigSep_sep']
    isplitl [As]; · iexact As
    isplitl [Ss]; · iexact Ss
    isplitl [T0]; · iexact T0
    iexact T1
  iintro ⟨HO, C0⟩
  iapply (own_at A B c _) $$ [Aown Sown]
  · isplitl [Aown]; · iexact Aown
    iexact Sown
  iintro ⟨Aown, Sown⟩
  -- the chunks arrive
  iapply (loop_rsRecv A B K c _) $$ [HO C1 P1]
  · isplitr
    · isplitr; · iexact HR
      iexact HL
    isplitl [HO]; · iexact HO
    isplitl [C1]; · iexact C1
    iexact P1
  iintro ⟨HO, P1, Ss⟩
  ihave Hrs := (Entails.of_eq ((rs_split c (rsFull A B c)).trans (split_src c fun j => slotPts c j (rsFull A B c))).symm) $$ [Sown Ss]
  · isplitl [Sown]; · iexact Sown
    iexact Ss
  iapply (sum_at A B c _) $$ [Hrs Hred Oown]
  · isplitl [Hrs]; · iexact Hrs
    isplitl [Hred]; · iexact Hred
    iexact Oown
  iintro ⟨Hrs, Hred, Oown⟩
  ihave Hred := (red_split c (red A B c)) $$ Hred
  icases Hred with ⟨Rown, Rs⟩
  -- the finished rows leave
  iapply (loop_ag A B K c _) $$ [HO Rs Os T2 T3]
  · isplitr; · iexact HR
    isplitl [HO]; · iexact HO
    unfold agIn
    rw [bigSep_sep', bigSep_sep', bigSep_sep']
    isplitl [Rs]; · iexact Rs
    isplitl [Os]; · iexact Os
    isplitl [T2]; · iexact T2
    iexact T3
  iintro ⟨HO, C2⟩
  -- the chunks have left
  iapply (loop_rsSent A B K c _) $$ [HO C0 P0]
  · isplitr
    · isplitr; · iexact HR
      iexact HL
    isplitl [HO]; · iexact HO
    isplitl [C0]; · iexact C0
    iexact P0
  iintro ⟨HO, P0, As⟩
  -- the finished rows arrive
  iapply (loop_agRecv A B K c _) $$ [HO C3 P3]
  · isplitr
    · isplitr; · iexact HR
      iexact HL
    isplitl [HO]; · iexact HO
    isplitl [C3]; · iexact C3
    iexact P3
  iintro ⟨HO, P3, Os⟩
  -- the finished rows have left
  iapply (wp_up c)
  iapply (loop_agSent A B K c _) $$ [HO C2 P2]
  · isplitr
    · isplitr; · iexact HR
      iexact HL
    isplitl [HO]; · iexact HO
    isplitl [C2]; · iexact C2
    iexact P2
  iintro ⟨HO, P2, Rs⟩
  -- every cell closes
  ihave HP := (Entails.of_eq (posEnd c).symm) $$ [Pb P0u P0 P1u P1 P2u P2 P3u P3]
  · isplitl [Pb]; · iexact Pb
    isplitl [P0u P0]
    · isplitl [P0u]; · iexact P0u
      iexact P0
    isplitl [P1u P1]
    · isplitl [P1u]; · iexact P1u
      iexact P1
    isplitl [P2u P2]
    · isplitl [P2u]; · iexact P2u
      iexact P2
    isplitl [P3u]; · iexact P3u
    iexact P3
  imod (close_all A B K c) $$ [HP] with HZ
  · isplitr; · iexact HR
    iexact HP
  ihave Hout := (Entails.of_eq ((out_split c (outFull A B)).trans (split_src c fun j => outPts c j (outFull A B))).symm) $$ [Oown Os]
  · isplitl [Oown]; · iexact Oown
    iexact Os
  ihave Hred := (red_join c (red A B c)) $$ [Rown Rs]
  · isplitl [Rown]; · iexact Rown
    iexact Rs
  imodintro
  iapply HQ
  isplitl [HO]; · iexact HO
  isplitl [HZ]; · iexact HZ
  isplitl [Ha]; · iexact Ha
  isplitl [Hb]; · iexact Hb
  isplitl [Hout]; · iexact Hout
  isplitl [Aown As]
  · isplitl [Aown]; · iexact Aown
    iexact As
  isplitl [Hred]; · iexact Hred
  iexact Hrs

end Run

end Cert.KernelIdeal.Hand

end
-- ==== Proof.Ideal.Start.lean ====
/- What the kernel's cells start with, dealt to the devices. -/
module

public import proofs.«01_k».proof.Proof.Ideal.Run

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

section Start
variable (A : Dev nD → FVec F S768x384 .f32) (B : Dev nD → FVec F S384x768 .f32)

/-! ## The semaphores -/

theorem ownSemFacts : Pipeline.OwnSemFacts cfg0.spec osem := by decide +kernel

theorem unscopedSems0_eq (c : Dev nD) : (unscopedSems0 c : sProp 𝕄) = semVal (barG c) 0 := by
  unfold unscopedSems0; rw [bigSep_eq_bigSepL_of_eq [SemLoc.reg barS] (by decide +kernel) (by decide +kernel)]; rfl

/-- The semaphores of the kernel, its own and the runtime's, are its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : KIx => semVal (kcell (c, k)) 0 : sProp 𝕄) := by
  rw [bigSep_kix, unscopedSems0_eq]; unfold Pipeline.ownSems0
  iintro ⟨HX, HB⟩
  isplitl [HB]; · iexact HB
  iexact HX

/-! ## The ghost state -/

/-- The cell, and the name, of each duty device `c` pays. -/
def tokIx (x : Dev nD × (Fin 32 ⊕ (Fin 4 × Fin 31))) : (Dev nD × KIx) × Fin 32 := match x.2 with
  | .inl p => ((p, none), x.1)
  | .inr (0, k) => ((x.1, some (0, up k)), 0)
  | .inr (1, k) => ((dst x.1 k, some (1, x.1)), 0)
  | .inr (2, k) => ((x.1, some (2, up k)), 0)
  | .inr (3, k) => ((dst x.1 k, some (3, x.1)), 0)

theorem tokIx_inj : Function.Injective tokIx := by
  rintro ⟨c, p | ⟨a, k⟩⟩ ⟨c', p' | ⟨a', k'⟩⟩ h
  · simp only [tokIx, Prod.mk.injEq] at h
    rw [h.1.1, h.2]
  · fin_cases a' <;> simp [tokIx] at h
  · fin_cases a <;> simp [tokIx] at h
  · fin_cases a <;> fin_cases a' <;> simp only [tokIx, Prod.mk.injEq, Option.some.injEq, and_true, true_and] at h
    all_goals first
      | exact absurd h.2.1 (by decide)
      | (obtain ⟨rfl, h⟩ := h; rw [up_inj h])
      | (obtain ⟨h, rfl⟩ := h; rw [dst_inj c h])

def tokOf (x : Dev nD × (Fin 32 ⊕ (Fin 4 × Fin 31))) : GSem nD τ sig × ℕ × Fin 32 := (kcell (tokIx x).1, 0, (tokIx x).2)
theorem tokOf_inj : Function.Injective tokOf := fun x y h =>
  tokIx_inj (Prod.ext (kcell_inj (congrArg (fun t : GSem nD τ sig × ℕ × Fin 32 => t.1) h)) (congrArg (fun t : GSem nD τ sig × ℕ × Fin 32 => t.2.2) h))

def ringCells : Finset (GSem nD τ sig) := Finset.univ.map ⟨kcell, kcell_inj⟩
def ringToks : Finset (GSem nD τ sig × ℕ × Fin 32) := Finset.univ.map ⟨tokOf, tokOf_inj⟩

def u₀ : UU := (initOf (Pipeline.cells cfgs cellOf_inj) (Pipeline.launchToks cfgs cellOf_inj), initOf ringCells ringToks)

/-- What a device is dealt. -/
def G (c : Dev nD) : sProp 𝕄 :=
  iprop((bigSep Finset.univ fun k : KIx => roundState ER (Rd A B) (kcell (c, k)) 0)
    ∗ (bigSep Finset.univ fun k : KIx => iprop(atPos ER (kcell (c, k)) 0 ∅ 0 ∗ reached ER (kcell (c, k)) 0)) ∗ toks c)

/-- What a device starts its run with. -/
def G' (c : Dev nD) : sProp 𝕄 := iprop(∃ K, records A B K ∗ toks c ∗ pos0 c)

theorem fund_ring : BI.own (ER (initOf ringCells ringToks)) ⊢ (|==> bigSep Finset.univ (G A B) : sProp 𝕄) := by
  have hX (Φ : GSem nD τ sig → sProp 𝕄) : bigSep ringCells Φ = bigSep Finset.univ fun c : Dev nD => bigSep Finset.univ fun k : KIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_prod, bigSep_fin4]; rfl
  iintro HX
  imod (Rounds.fund ER (Rd A B) ringCells ringToks) $$ HX with ⟨Hst, Hr, Hat, Htok⟩
  imodintro
  ihave Hst' := (Entails.of_eq (hX fun g => roundState ER (Rd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k : KIx => iprop(∃ κ : ℕ, cellInv ER (Rd A B) κ (kcell (c, k))))
          ∗ (bigSep Finset.univ fun k : KIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : KIx => semVal (kcell (c, k)) 0) ∗ bigSep Finset.univ fun k : KIx => roundState ER (Rd A B) (kcell (c, k)) 0)
      ⊢ (|={Set.univ}=> bigSep Finset.univ fun k : KIx => iprop(∃ κ : ℕ, cellInv ER (Rd A B) κ (kcell (c, k))) : sProp 𝕄) from by
        rw [← bigSep_sep']
        exact (bigSep_mono fun k _ => (Rounds.body_intro ER (Rd A B) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : KIx => iprop(∃ κ : ℕ, cellInv ER (Rd A B) κ (kcell (c, k))))
          ∗ (bigSep Finset.univ fun k : KIx => iprop(atPos ER (kcell (c, k)) 0 ∅ 0 ∗ reached ER (kcell (c, k)) 0)) ∗ toks c) : sProp 𝕄)
      ⊢ bigSep Finset.univ (G' A B) := by
  rw [bigSep_sep', bigSep_sep', ← bigSep_univ_prod (fun ck : Dev nD × KIx => iprop(∃ κ : ℕ, cellInv ER (Rd A B) κ (kcell ck))),
    bigSep_congr (s := Finset.univ) (fun (c : Dev nD) _ => bigSep_sep' Finset.univ (fun k : KIx => (atPos ER (kcell (c, k)) 0 ∅ 0 : sProp 𝕄)) (fun k => reached ER (kcell (c, k)) 0)),
    bigSep_sep', ← bigSep_univ_prod (fun ck : Dev nD × KIx => (reached ER (kcell ck) 0 : sProp 𝕄))]
  iintro ⟨HI, ⟨Hat, #HR⟩, Htok⟩
  ihave HK := (BI.bigSep_exists_pi Finset.univ (fun (ck : Dev nD × KIx) (κ : ℕ) => (cellInv ER (Rd A B) κ (kcell ck) : sProp 𝕄))) $$ HI
  icases HK with ⟨%K, #HI⟩
  have key : iprop(records A B K ∗ bigSep Finset.univ fun c : Dev nD => iprop(toks c ∗ pos0 c)) ⊢ (bigSep Finset.univ (G' A B) : sProp 𝕄) :=
    bigSep_with_persistent (R := records A B K) fun c _ => by
      unfold G'; iintro H; iexists K; iexact H
  iapply key
  isplitr
  · unfold records; isplitl; · iexact HI
    iexact HR
  · rw [bigSep_sep']
    isplitl [Htok]; · iexact Htok
    unfold pos0
    iexact Hat

/-- All semaphores at zero and all that was dealt, to what every device starts with. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

/-! ## What a device is owed -/

theorem sum_tally_at {ι : Type} (S : Finset ι) (f : ι → Dev nD × KIx) (n : ℕ) (y : Dev nD × KIx) :
    (∑ x ∈ S, (tallyAt (kcell (f x)) () n : CellTallies nD τ sig Unit)) (kcell y) () = ∑ x ∈ S, if y = f x then n else 0 := by
  classical
  induction S using Finset.induction_on with
  | empty => rfl
  | insert a S ha ih =>
    rw [Finset.sum_insert ha, Finset.sum_insert ha, Pi.add_apply, Finsupp.add_apply, ih, tallyAt_apply]
    congr 1
    exact if_congr ⟨fun h => kcell_inj h.1, fun h => ⟨congrArg kcell h, rfl⟩⟩ rfl rfl

theorem filter_all {n : ℕ} : (Finset.univ.filter fun p : Fin n => 0 ≤ p.val) = Finset.univ := Finset.filter_true_of_mem fun _ _ => Nat.zero_le _

theorem owes_at (d : Dev nD) (y : Dev nD × KIx) : O₀ d (kcell y) () = (∑ p : Fin 32, if y = (p, none) then 1 else 0)
    + ((∑ k : Fin 31, if y = (dst d k, some (1, d)) then N else 0) + ∑ k : Fin 31, if y = (dst d k, some (3, d)) then N else 0) := by
  unfold O₀ OB OX
  rw [Pi.add_apply, Finsupp.add_apply, Pi.add_apply, Finsupp.add_apply, filter_all, filter_all, sum_tally_at, sum_tally_at, sum_tally_at]

theorem no_arrival (c d : Dev nD) (a : Fin 4) : (∑ k : Fin 31, if ((c, none) : Dev nD × KIx) = (dst d k, some (a, d)) then N else 0) = 0 :=
  Finset.sum_eq_zero fun k _ => if_neg (by simp)
theorem no_signal (y : Dev nD) (ak : Fin 4 × Fin 32) : (∑ p : Fin 32, if ((y, some ak) : Dev nD × KIx) = (p, none) then 1 else 0) = 0 :=
  Finset.sum_eq_zero fun k _ => if_neg (by simp)

theorem owed_none (c d : Dev nD) : O₀ d (barG c) () = 1 := by
  rw [owes_at, Finset.sum_eq_single c (fun p _ hp => if_neg fun h => hp (congrArg Prod.fst h).symm) (fun h => absurd (Finset.mem_univ _) h), if_pos rfl, no_arrival, no_arrival]

/-- The arrivals in one array, from all devices, at one cell: one copy. -/
theorem arrivals (a b : Fin 4) (c : Dev nD) (k : Fin 31) :
    (∑ d : Dev nD, ∑ i : Fin 31, if ((c, some (b, src c k)) : Dev nD × KIx) = (dst d i, some (a, d)) then N else 0) = if b = a then N else 0 := by
  rw [Finset.sum_eq_single (src c k), Finset.sum_eq_single k]
  · refine if_congr ⟨fun h => ?_, fun h => ?_⟩ rfl rfl
    · exact congrArg Prod.fst (Option.some.inj (congrArg Prod.snd h))
    · rw [dst_src, h]
  · intro i _ hi
    refine if_neg fun h => hi (dst_inj (src c k) ?_)
    rw [dst_src]; exact (congrArg Prod.fst h).symm
  · exact fun h => absurd (Finset.mem_univ _) h
  · intro d _ hd
    exact Finset.sum_eq_zero fun i _ => if_neg fun h => hd (congrArg Prod.snd (Option.some.inj (congrArg Prod.snd h))).symm
  · exact fun h => absurd (Finset.mem_univ _) h

theorem owed_some (a : Fin 4) (ha : a = 1 ∨ a = 3) (c : Dev nD) (k : Fin 31) : ∑ d : Dev nD, O₀ d (xG c a (src c k)) () = N := by
  rw [Finset.sum_congr rfl fun d _ => owes_at d (c, some (a, src c k)), Finset.sum_add_distrib, Finset.sum_add_distrib, arrivals 1 a c k, arrivals 3 a c k,
    Finset.sum_eq_zero (fun d _ => no_signal c (a, src c k))]
  rcases ha with rfl | rfl
  · rw [if_pos rfl, if_neg (by decide)]; omega
  · rw [if_neg (by decide), if_pos rfl]; omega

theorem launch_bar (c : Dev nD) :
    tallyOn (barG c) (launchCredit (Pipeline.owing O₀) 0 (barG c)) = (tallyAt (barG c) () 32 : CellTallies nD τ sig Unit) := by
  unfold tallyAt; refine congrArg _ (Finsupp.ext fun u => ?_); cases u
  rw [Pipeline.launchCredit_owing, Finsupp.single_eq_same, Finset.sum_congr rfl fun d _ => owed_none c d, Finset.sum_const, Finset.card_univ]
  rfl

theorem launch_x (a : Fin 4) (ha : a = 1 ∨ a = 3) (c : Dev nD) (k : Fin 31) :
    tallyOn (xG c a (src c k)) (launchCredit (Pipeline.owing O₀) 0 (xG c a (src c k))) = (tallyAt (xG c a (src c k)) () N : CellTallies nD τ sig Unit) := by
  unfold tallyAt; refine congrArg _ (Finsupp.ext fun u => ?_); cases u
  rw [Pipeline.launchCredit_owing, Finsupp.single_eq_same, owed_some a ha c k]

theorem creds_intro (c : Dev nD) : (Pipeline.launchCred O₀ c : sProp 𝕄) ⊢ creds c := by
  unfold Pipeline.launchCred
  have h1 : (bigSep Finset.univ fun sm : SemLoc sig => (cred (tallyOn ((c : Thread nD τ), sm) (launchCredit (Pipeline.owing O₀) 0 ((c : Thread nD τ), sm))) : sProp 𝕄))
      ⊢ bigSep (Finset.univ.map ⟨csem, csem_inj⟩) fun sm : SemLoc sig => cred (tallyOn ((c : Thread nD τ), sm) (launchCredit (Pipeline.owing O₀) 0 ((c : Thread nD τ), sm))) :=
    bigSep_subset (Finset.subset_univ _)
  refine h1.trans ?_
  rw [bigSep_map]
  have h2 := kix_split c (fun k : KIx => (cred (tallyOn (kcell (c, k)) (launchCredit (Pipeline.owing O₀) 0 (kcell (c, k)))) : sProp 𝕄))
  rw [launch_bar c, bigSep_congr (s := Finset.univ) (fun (k : Fin 31) _ => congrArg cred (launch_x 1 (Or.inl rfl) c k)),
    bigSep_congr (s := Finset.univ) (fun (k : Fin 31) _ => congrArg cred (launch_x 3 (Or.inr rfl) c k))] at h2
  refine (Entails.of_eq h2).trans ?_
  unfold creds
  iintro ⟨Hb, -, ⟨-, H1⟩, -, -, H3⟩
  isplitl [Hb]; · iexact Hb
  isplitl [H1]; · iexact H1
  iexact H3

end Start

end Cert.KernelIdeal.Hand

end
-- ==== Proof.Ideal.Launch.lean ====
/- The whole program: the launch of the kernel on every device, and what it leaves behind. -/
module

public import proofs.«01_k».proof.Proof.Ideal.Start
public import Idealize.ShloMosaic.Lib.Pipeline.CollectiveSegs
public import proofs.«01_k».proof.Proof.Gen.KernelIdeal.Points

@[expose] public section

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The machine at the start. -/
def s₀ : MemSt nD τ sig (Elt F) := ⟨m, fun _ => 0, ρ⟩

/-- The two arguments as staged. -/
def inA (c : Dev nD) : FVec F S768x384 .f32 := (win0_0.blk (0 : Fin 1)).view.read (Elt F) ((s₀ m ρ).mem ((c : Thread nD τ).loc main_arg0))
def inB (c : Dev nD) : FVec F S384x768 .f32 := (win0_1.blk (0 : Fin 1)).view.read (Elt F) ((s₀ m ρ).mem ((c : Thread nD τ).loc main_arg1))
/-- The result, the same on every device. -/
def res : FVec F S768x768 .f32 := outFull (inA m ρ) (inB m ρ)

/-- What a device's run starts from, besides its buffers. -/
def start (c : Dev nD) : sProp 𝕄 := iprop(G' (inA m ρ) (inB m ρ) c ∗ creds c ∗ levAts L lv)

/-- The scratch buffers at some contents. -/
def scratch (c : Dev nD) : sProp 𝕄 := iprop((∃ f, accAll (F := F) c f) ∗ (∃ f, redAll (F := F) c f) ∗ ∃ f, rsAll (F := F) c f)

def Φ₀ (c : Dev nD) : sProp 𝕄 := iprop(start m ρ c ∗ scratch c)
def Φ₁ (c : Dev nD) : sProp 𝕄 := iprop(scratch c ∗ bigSep Finset.univ fun k : KIx => semVal (kcell (c, k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inA m ρ c
    | ⟨1, _⟩ => inB m ρ c
    | ⟨2, _⟩ => res m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ ∗ stg c cc0_stg0_0 (inA m ρ c) ∗ stg c cc0_stg1_0 (inB m ρ c) ∗ stg c cc0_stg2_0 (res m ρ))

set_option maxRecDepth 65536 in
theorem sound_body (c : Dev nD) :
    bodyPre m ρ c ⊢ wp frame (wpE (defs₀ (F := F)) 𝒱₀ c none) Set.univ
      (cc0_body aM (Memref.isWhole_whole _) bM (Memref.isWhole_whole _) oM (Memref.isWhole_whole _) accM (Memref.isWhole_whole _)
        redM (Memref.isWhole_whole _) rsM (Memref.isWhole_whole _) cc0_scratch3 cc0_scratch4 cc0_scratch5 cc0_scratch6) (fun _ => bodyPost m ρ c) := by
  rw [cc0_body_eq_skeleton, body_eq_loops]
  unfold loops
  simp only [Prog.lift, Prog.bind_op, Prog.bind_ret, Prog.pure_eq_ret, wp_deviceId]
  unfold bodyPre Φ₀ start G' scratch
  iintro ⟨⟨⟨⟨%K, #HR, HT, HP⟩, HC, #HL⟩, Hacc, Hred, Hrs⟩, Ho, ⟨%d0, %g0, %hg0, Ha⟩, ⟨%d1, %g1, %hg1, Hb⟩, ⟨%d2, %g2, %hg2, Hout⟩⟩
  have ha : g0 = inA m ρ c := by rw [hg0]; unfold Dat.before; rw [if_pos (fetch0_0 t0_0)]; rfl
  have hb : g1 = inB m ρ c := by rw [hg1]; unfold Dat.before; rw [if_pos (fetch0_1 t0_0)]; rfl
  subst ha hb
  unfold Dat.owesAt Pipeline.owesWithin
  icases Ho with ⟨%W, %hW, HO⟩
  rw [show (dats m ρ 0 c).owed t0_0.castSucc = O₀ c from rfl]
  iapply (run_device (inA m ρ) (inB m ρ) K c (fun _ => bodyPost m ρ c)) $$ [HT HP HC Hacc Hred Hrs HO Ha Hb Hout]
  · isplitr
    · isplitr; · iexact HR
      iexact HL
    isplitl [HO]; · unfold owesX; iexists W; iexact HO
    isplitl [HT]; · iexact HT
    isplitl [HP]; · iexact HP
    isplitl [HC]; · iexact HC
    isplitl [Ha]; · unfold aPts; iexact Ha
    isplitl [Hb]; · unfold bPts; iexact Hb
    isplitl [Hout]; · unfold outAll; iexists g2; iexact Hout
    isplitl [Hacc]; · iexact Hacc
    isplitl [Hred]; · iexact Hred
    iexact Hrs
  unfold owesX
  iintro ⟨⟨%W', HO⟩, HZ, Ha, Hb, Hout, Hacc, Hred, Hrs⟩
  unfold bodyPost Φ₁ scratch Dat.owesAt Pipeline.owesWithin
  rw [show (dats m ρ 0 c).owed t0_0.succ = 0 from rfl]
  isplitl [HZ Hacc Hred Hrs]
  · isplitl [Hacc Hred Hrs]
    · isplitl [Hacc]; · iexists _; iexact Hacc
      isplitl [Hred]; · iexists _; iexact Hred
      iexists _; iexact Hrs
    iexact HZ
  isplitl [HO]
  · iexists W'
    isplitr; · ipureintro; exact fun _ _ => Or.inl trivial
    iexact HO
  isplitl [Ha]
  · iexists _; isplitr; · (ipureintro; rfl)
    unfold aPts; iexact Ha
  isplitl [Hb]
  · iexists _; isplitr; · (ipureintro; rfl)
    unfold bPts; iexact Hb
  iexists _; isplitr; · (ipureintro; rfl)
  unfold outAll res; iexact Hout

set_option maxRecDepth 65536 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inA m ρ) (inB m ρ) c)
      ⊢ |={Set.univ}=> iprop(start m ρ c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem scratch_eq (c : Dev nD) : (Pipeline.scopedRest (Ix := Unit) (Name := ℕ) (U := UU) (Lvl := ℕ) (Val := Elt F) cfg0.spec c : sProp 𝕄) = scratch c := by
  rw [scopedRest0_eq]; unfold scratch accAll redAll rsAll; rfl

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scratch_eq, unscopedSems0_eq]
  unfold Φ₁ Pipeline.ownSems0
  rw [bigSep_kix]
  iintro ⟨Hr, Hb, Hx⟩
  isplitl [Hb]; · iexact Hb
  isplitl [Hx]; · iexact Hx
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_at c _ 0 (le_of_eq (lv_stage c _ (by fin_cases w <;> fin_cases s <;> decide) ())) (by
      rcases t with ⟨_ | _, ht⟩
      · exact above_O₀ c
      · exact Above.zero 0)

/-! ## The run -/

def finalA (c : Dev nD) (w : Fin cfg0.W) : Buf (Elt F) ((cfg0.win w).arr.view.loc (c : Thread nD τ)) := (dats m ρ 0 c).arrAt w cfg0.N

set_option maxRecDepth 65536 in
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inA m ρ) (inB m ρ)) (G' := G' (inA m ρ) (inB m ρ)) (u₀ := u₀)
    (hu₀ := by
      unfold u₀
      iintro Hu
      ihave H := (ownU_pair _ _) $$ Hu
      icases H with ⟨HP, HX⟩
      imod (fund_ring (inA m ρ) (inB m ρ)) $$ HX with HG
      imodintro
      isplitl [HP] <;> iassumption)
    (hglob := glob (inA m ρ) (inB m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem inA_eq (c : Dev nD) : inA m ρ c = m ((c : Thread nD τ).loc main_arg0) := by
  funext i
  exact congrArg (m ((c : Thread nD τ).loc main_arg0)) (funext fun a => Fin.ext (by
    fin_cases a <;> (show 0 * _ + 1 * _ = _; omega)))
theorem inB_eq (c : Dev nD) : inB m ρ c = m ((c : Thread nD τ).loc main_arg1) := by
  funext i
  exact congrArg (m ((c : Thread nD τ).loc main_arg1)) (funext fun a => Fin.ext (by
    fin_cases a <;> (show 0 * _ + 1 * _ = _; omega)))

theorem finalA_0 (c : Dev nD) : finalA m ρ c (0 : Fin 3) = m ((c : Thread nD τ).loc main_arg0) := (dats (F := F) m ρ 0 c).arrAt_in (0 : Fin 3) rfl _
theorem finalA_1 (c : Dev nD) : finalA m ρ c (1 : Fin 3) = m ((c : Thread nD τ).loc main_arg1) := (dats (F := F) m ρ 0 c).arrAt_in (1 : Fin 3) rfl _

theorem out_emb (t : Fin cfg0.N) (i : S768x768.Idx) : ((cfg0.win (2 : Fin 3)).blk t).view.emb i = i :=
  funext fun a => Fin.ext (by
    fin_cases a <;> (show 0 * _ + 1 * _ = _; omega))

theorem finalA_2 (c : Dev nD) : finalA m ρ c (2 : Fin 3) = res m ρ :=
  (dats m ρ 0 c).arrAt_eq_of_cover (2 : Fin 3) (res m ρ)
    (fun t _ => by
      unfold Dat.flushed
      funext i
      show res m ρ _ = res m ρ _
      exact congrArg (res m ρ) (out_emb t i).symm)
    (fun i => ⟨t0_0, flush0_2 _, by
      rw [← out_emb t0_0 i]
      exact View.emb_mem_set _ _⟩)

/-- The program runs, every device's result array ends at the same contents `outFull` of the devices' arguments, the
    arguments end unchanged and every counter at zero. -/
theorem run : θ_run defs (onTc (τ := τ) (main (F := F))) ⟨m, fun _ => 0, ρ⟩ (fun r =>
    (∀ c : Dev nD, r.2.mem ((c.tc : Thread nD τ).loc main_v1)
        = outFull (fun d => m ((d.tc : Thread nD τ).loc main_arg0)) (fun d => m ((d.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun r h => ⟨fun c => ⟨((h.1 c (2 : Fin 3)).trans (finalA_2 m ρ c)).trans (by
      unfold res; rw [show inA m ρ = _ from funext (inA_eq m ρ), show inB m ρ = _ from funext (inB_eq m ρ)]),
    (h.1 c (0 : Fin 3)).trans (finalA_0 m ρ c), (h.1 c (1 : Fin 3)).trans (finalA_1 m ρ c)⟩, h.2⟩) (run_main m ρ)

end Cert.KernelIdeal.Hand

end
-- ==== Proof.Ref.lean ====
/- The run of the reference: one product of the two whole arrays, on one device. -/
module

public import proofs.«01_k».proof.Proof.Gen.ReferenceIdeal
public import Idealize.ShloMosaic.Lib.StableHlo.Run
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- What the reference leaves: the product of the whole arrays. -/
abbrev product (X : FVec F S768x12288 .f32) (Y : FVec F S12288x768 .f32) : FVec F S768x768 .f32 :=
  Host.dotGeneral dot_S768x12288_S12288x768_S768x768_1_0_0_1_n_n none X Y

/-- The reference's only operation. -/
abbrev ops : List (HloOp τ sig (Elt F)) := [binary main_arg0 main_arg1 main_v0 product]

theorem main_is (c : Dev nD) : main (F := F) c = seq ops := rfl

theorem v0_after (V : Valuation τ sig (Elt F)) :
    after ops V (main_v0 : DevRef τ sig) = product (V (main_arg0 : DevRef τ sig)) (V (main_arg1 : DevRef τ sig)) := by
  after_results
theorem arg0_after (V : Valuation τ sig (Elt F)) : after ops V (main_arg0 : DevRef τ sig) = V (main_arg0 : DevRef τ sig) := by
  after_results
theorem arg1_after (V : Valuation τ sig (Elt F)) : after ops V (main_arg1 : DevRef τ sig) = V (main_arg1 : DevRef τ sig) := by
  after_results

theorem no_scoped_refs : (Finset.univ.filter fun b : Ref sig .tc => b.isScoped) = ∅ := by decide
theorem no_scoped_sems : (Finset.univ.filter fun sm : SemLoc sig => sm.isScoped .tc) = ∅ := by decide

theorem ops_bufs : (ops : List (HloOp τ sig (Elt F))).Forall fun op => op.bufs ⊆ tcRefs τ sig := binary_bufs_sub ..

/-- Every run of the reference ends with the product in its result, its arguments as they were and no count left. -/
theorem run (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_v0)
          = product (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) :=
  (θ_run defs _ _).mono (fun r h => ⟨fun c => ⟨(h c main_v0).trans (v0_after _), (h c main_arg0).trans (arg0_after _),
      (h c main_arg1).trans (arg1_after _)⟩, sem_eq_zero_of_no_sems (by decide) r.2⟩)
    (run_seq no_scoped_refs no_scoped_sems defs main (fun _ => ops) main_is (fun _ => ops_bufs) m ρ)

end Cert.ReferenceIdeal.Hand

end
-- ==== Proof.Value.lean ====
/- The value: the sum over the devices of the products of their blocks is the product of the whole arrays. -/
module

public import proofs.«01_k».proof.Proof.Ideal.Views
public import proofs.«01_k».proof.Proof.Ref
public import Idealize.ShloMosaic.Lib.MatmulPlain
public import Idealize.ShloMosaic.Lib.StackMember
public import Idealize.ShloMosaic.Lib.Layout
public import Idealize.ShloMosaic.Lib.Pipeline.Value
public import Idealize.ShloMosaic.PureOps.Ideal.Laws

@[expose] public section

noncomputable section

namespace Cert.KernelIdeal.Hand

open Idealize.ShloMosaic Idealize.SL.Sem Cert.KernelIdeal.Gen
open Idealize.ShloMosaic.TcCoe
open Idealize.ShloMosaic.ValueIdx
open scoped BigOperators

/-- A device's product at an index: the sum over its own share of the contracted axis. -/
theorem part_ideal (A : Dev nD → FVec Ideal S768x384 .f32) (B : Dev nD → FVec Ideal S384x768 .f32) (c : Dev nD) (x y : Fin 768) :
    part A B c (ix2 x y) = ∑ k : Fin 384, A c (ix2 x k) * B c (ix2 k y) := by
  unfold part k0_pay2 k0_pay1
  simp only [shapeCast_self]
  refine (Ideal.matmul_plain_apply (M := 768) (K := 384) (N := 768) none (A c) (B c) _ x y).trans ?_
  have h0 : (constant S768x768 .f32 0x00000000#32 : FVec Ideal S768x768 .f32) (ix2 x y) = (0 : EReal) := by
    show Ideal.ofBits .f32 0x00000000#32 = 0
    simp [Ideal.ofBits, Ideal.ieee]
  rw [h0, zero_add]

/-- The index a sum over the slots reads. -/
theorem lift_slot (j : Fin 32) (x : Fin 24) (y : Fin 768) :
    (reduces_S32x24x768_S24x768).lift (ix2 x y) j = (ix3 j x y : S32x24x768.Idx) := by
  funext a
  apply Fin.ext
  match a with
  | ⟨0, _⟩ => rfl
  | ⟨1, _⟩ => rfl
  | ⟨2, _⟩ => rfl

/-- A device's rows after the sum over the slots. -/
theorem red_ideal (A : Dev nD → FVec Ideal S768x384 .f32) (B : Dev nD → FVec Ideal S384x768 .f32) (c : Dev nD) (x : Fin 24) (y : Fin 768) :
    red A B c (ix2 x y) = ∑ r : Fin 32, part A B r (ix2 (rowIx c x) y) := by
  unfold red k0_pay4
  simp only [shapeCast_self]
  refine (Ideal.multiReduction_add_single _ _ _ _ _ _).trans ?_
  refine Finset.sum_congr rfl fun r _ => ?_
  exact (congrArg (rsFull A B c) (lift_slot r x y)).trans (rsFull_apply A B c r x y)

/-- The sum over the devices of sums over their shares is the sum over the whole axis. -/
theorem sum_shares (f : Fin 12288 → EReal) :
    ∑ r : Fin 32, ∑ k : Fin 384, f ⟨r.val * 384 + k.val, by omega⟩ = ∑ k : Fin 12288, f k := by
  rw [← Fintype.sum_prod_type' (fun (r : Fin 32) (k : Fin 384) => f ⟨r.val * 384 + k.val, by omega⟩)]
  refine Fintype.sum_equiv (finProdFinEquiv (m := 32) (n := 384)) _ _ fun p => congrArg f (Fin.ext ?_)
  show p.1.val * 384 + p.2.val = p.2.val + 384 * p.1.val
  omega

/-- The reference's product at an index. -/
theorem product_ideal (X : FVec Ideal ⟨2, ![768, 12288]⟩ .f32) (Y : FVec Ideal ⟨2, ![12288, 768]⟩ .f32) (x y : Fin 768) :
    Cert.ReferenceIdeal.Hand.product X Y (ix2 x y) = ∑ k : Fin 12288, X (ix2 x k) * Y (ix2 k y) :=
  Idealize.ShloMosaic.StackMember.dotGeneral_plain_apply none X Y x y

theorem cols_idx (h : Layout.Tiles ⟨2, ![768, 384]⟩ ⟨2, ![768, 12288]⟩ 1 32) (c : Fin 32) (x : Fin 768) (k : Fin 384) :
    h.idx c (ix2 x k) = (ix2 x (⟨c.val * 384 + k.val, by omega⟩ : Fin 12288)) := by
  funext a
  apply Fin.ext
  match a with
  | ⟨0, _⟩ => rfl
  | ⟨1, _⟩ => rfl

theorem rows_idx (h : Layout.Tiles ⟨2, ![384, 768]⟩ ⟨2, ![12288, 768]⟩ 0 32) (c : Fin 32) (k : Fin 384) (y : Fin 768) :
    h.idx c (ix2 k y) = (ix2 (⟨c.val * 384 + k.val, by omega⟩ : Fin 12288) y) := by
  funext a
  apply Fin.ext
  match a with
  | ⟨0, _⟩ => rfl
  | ⟨1, _⟩ => rfl

/-- Where the devices hold the blocks of two whole arrays, the kernel leaves the product of the whole arrays. -/
theorem outFull_product (A : Dev nD → FVec Ideal S768x384 .f32) (B : Dev nD → FVec Ideal S384x768 .f32)
    (X : FVec Ideal ⟨2, ![768, 12288]⟩ .f32) (Y : FVec Ideal ⟨2, ![12288, 768]⟩ .f32)
    (hA : ∀ c : Fin 32, A c = Layout.block ⟨2, ![768, 384]⟩ ⟨2, ![768, 12288]⟩ 1 32 c X)
    (hB : ∀ c : Fin 32, B c = Layout.block ⟨2, ![384, 768]⟩ ⟨2, ![12288, 768]⟩ 0 32 c Y) :
    outFull A B = Cert.ReferenceIdeal.Hand.product X Y := by
  funext i
  have hi : ∃ (j : Fin 32) (x : Fin 24) (y : Fin 768), i = ix2 (rowIx j x) y := by
    have h0 : (i 0).val < 768 := (i 0).isLt
    refine ⟨⟨(i 0).val / 24, by omega⟩, ⟨(i 0).val % 24, Nat.mod_lt _ (by decide)⟩, i 1, (eq_ix2 i).trans ?_⟩
    refine congrArg (fun u : Fin 768 => ix2 u (i 1)) (Fin.ext ?_)
    show (i 0).val = 24 * ((i 0).val / 24) + (i 0).val % 24
    omega
  obtain ⟨j, x, y, rfl⟩ := hi
  rw [outFull_apply, red_ideal, product_ideal,
    ← sum_shares fun k => X (ix2 (rowIx j x) k) * Y (ix2 k y)]
  refine Finset.sum_congr rfl fun r _ => ?_
  rw [part_ideal]
  refine Finset.sum_congr rfl fun k _ => ?_
  rw [hA r, hB r, Layout.block_apply, Layout.block_apply, cols_idx, rows_idx]

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Launch
public import proofs.«01_k».proof.Proof.Ideal.Launch
public import proofs.«01_k».proof.Proof.Ref
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel runs, leaves its arguments alone and no count behind. -/
theorem frame_p : Cert.quiescent_Kernel := by
  intro m g _
  exact (θ_run Cert.Kernel.defs _ _).mono (fun _ h => ⟨fun c => (h.1 c).2, h.2⟩) (Cert.Kernel.Hand.run (F := Bits) m g)

/-- So does the kernel over the reals. -/
theorem frame_pi : Cert.quiescent_KernelIdeal := by
  intro m g _
  exact (θ_run Cert.KernelIdeal.defs _ _).mono (fun _ h => ⟨fun c => (h.1 c).2, h.2⟩)
    (Cert.KernelIdeal.Hand.run (F := Ideal) m g)

/-- So does the reference. -/
theorem frame_ri : Cert.quiescent_ReferenceIdeal := by
  intro m g _
  exact (θ_run Cert.ReferenceIdeal.defs _ _).mono (fun _ h => ⟨fun c => (h.1 c).2, h.2⟩)
    (Cert.ReferenceIdeal.Hand.run (F := Ideal) m g)

/-- Every device of the kernel ends with the reference's result. -/
theorem algebraic : Cert.algebraic_KernelIdeal_ReferenceIdeal := by
  intro m g m' g' _ hb
  refine ⟨_, ?_, (θ_run Cert.ReferenceIdeal.defs _ _).mono (fun _ h => h.1 0) (Cert.ReferenceIdeal.Hand.run (F := Ideal) m' g')⟩
  refine (θ_run Cert.KernelIdeal.defs _ _).mono (fun _ h c => ⟨(h.1 c).1.trans ?_, (h.1 c).2⟩)
    (Cert.KernelIdeal.Hand.run (F := Ideal) m g)
  exact Cert.KernelIdeal.Hand.outFull_product _ _ _ _ (fun c => (hb c).1) (fun c => (hb c).2)

theorem claim : Cert.Claim := ⟨Cert.Kernel.Gen.facts, Cert.KernelIdeal.Gen.facts, Cert.ReferenceIdeal.Gen.facts,
  frame_p, frame_pi, frame_ri, trivial, algebraic⟩

end Cert.Proof

end
